-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "c2" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v5_0)) (v1 : (c : Dev Cert.ProjectionIdeal.nD) → Buf (Elt Ideal) ((c.tc : Thread Cert.ProjectionIdeal.nD Cert.ProjectionIdeal.τ).loc Cert.ProjectionIdeal.main_v5_1)) (v2 : (c : Dev Cert.ProjectionIdeal.nD) → Buf (Elt Ideal) ((c.tc : Thread Cert.ProjectionIdeal.nD Cert.ProjectionIdeal.τ).loc Cert.ProjectionIdeal.main_v5_2)) (v3 : (c : Dev Cert.ProjectionIdeal.nD) → Buf (Elt Ideal) ((c.tc : Thread Cert.ProjectionIdeal.nD Cert.ProjectionIdeal.τ).loc Cert.ProjectionIdeal.main_v5_3)) (v4 : (c : Dev Cert.ProjectionIdeal.nD) → Buf (Elt Ideal) ((c.tc : Thread Cert.ProjectionIdeal.nD Cert.ProjectionIdeal.τ).loc Cert.ProjectionIdeal.main_v5_4)) (v5 : (c : Dev Cert.ProjectionIdeal.nD) → Buf (Elt Ideal) ((c.tc : Thread Cert.ProjectionIdeal.nD Cert.ProjectionIdeal.τ).loc Cert.ProjectionIdeal.main_v5_5)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v5_0) = v0 c
          ∧ r.2.mem ((c.tc : Thread Cert.ProjectionIdeal.nD Cert.ProjectionIdeal.τ).loc Cert.ProjectionIdeal.main_v5_1) = v1 c
          ∧ r.2.mem ((c.tc : Thread Cert.ProjectionIdeal.nD Cert.ProjectionIdeal.τ).loc Cert.ProjectionIdeal.main_v5_2) = v2 c
          ∧ r.2.mem ((c.tc : Thread Cert.ProjectionIdeal.nD Cert.ProjectionIdeal.τ).loc Cert.ProjectionIdeal.main_v5_3) = v3 c
          ∧ r.2.mem ((c.tc : Thread Cert.ProjectionIdeal.nD Cert.ProjectionIdeal.τ).loc Cert.ProjectionIdeal.main_v5_4) = v4 c
          ∧ r.2.mem ((c.tc : Thread Cert.ProjectionIdeal.nD Cert.ProjectionIdeal.τ).loc Cert.ProjectionIdeal.main_v5_5) = v5 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v17) = v0 c
          ∧ r.2.mem ((c.tc : Thread Cert.ProjectionReferenceIdeal.nD Cert.ProjectionReferenceIdeal.τ).loc Cert.ProjectionReferenceIdeal.main_v18) = v1 c
          ∧ r.2.mem ((c.tc : Thread Cert.ProjectionReferenceIdeal.nD Cert.ProjectionReferenceIdeal.τ).loc Cert.ProjectionReferenceIdeal.main_v19) = v2 c
          ∧ r.2.mem ((c.tc : Thread Cert.ProjectionReferenceIdeal.nD Cert.ProjectionReferenceIdeal.τ).loc Cert.ProjectionReferenceIdeal.main_v20) = v3 c
          ∧ r.2.mem ((c.tc : Thread Cert.ProjectionReferenceIdeal.nD Cert.ProjectionReferenceIdeal.τ).loc Cert.ProjectionReferenceIdeal.main_v21) = v4 c
          ∧ r.2.mem ((c.tc : Thread Cert.ProjectionReferenceIdeal.nD Cert.ProjectionReferenceIdeal.τ).loc Cert.ProjectionReferenceIdeal.main_v22) = v5 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v7_0)) (v1 : (c : Dev Cert.MemoryIdeal.nD) → Buf (Elt Ideal) ((c.tc : Thread Cert.MemoryIdeal.nD Cert.MemoryIdeal.τ).loc Cert.MemoryIdeal.main_v7_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v7_0) = v0 c
          ∧ r.2.mem ((c.tc : Thread Cert.MemoryIdeal.nD Cert.MemoryIdeal.τ).loc Cert.MemoryIdeal.main_v7_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v16) = v0 c
          ∧ r.2.mem ((c.tc : Thread Cert.MemoryReferenceIdeal.nD Cert.MemoryReferenceIdeal.τ).loc Cert.MemoryReferenceIdeal.main_v18) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)) →
    ∃ (v0 : (c : Dev Cert.SampleIdeal.nD) → Buf (Elt Ideal) ((c.tc : Thread Cert.SampleIdeal.nD Cert.SampleIdeal.τ).loc Cert.SampleIdeal.main_v6_0)) (v1 : (c : Dev Cert.SampleIdeal.nD) → Buf (Elt Ideal) ((c.tc : Thread Cert.SampleIdeal.nD Cert.SampleIdeal.τ).loc Cert.SampleIdeal.main_v6_1)) (v2 : (c : Dev Cert.SampleIdeal.nD) → Buf (Elt Ideal) ((c.tc : Thread Cert.SampleIdeal.nD Cert.SampleIdeal.τ).loc Cert.SampleIdeal.main_v6_2)) (v3 : (c : Dev Cert.SampleIdeal.nD) → Buf (Elt Ideal) ((c.tc : Thread Cert.SampleIdeal.nD Cert.SampleIdeal.τ).loc Cert.SampleIdeal.main_v6_3)) (v4 : (c : Dev Cert.SampleIdeal.nD) → Buf (Elt Ideal) ((c.tc : Thread Cert.SampleIdeal.nD Cert.SampleIdeal.τ).loc Cert.SampleIdeal.main_v6_4)) (v5 : (c : Dev Cert.SampleIdeal.nD) → Buf (Elt Ideal) ((c.tc : Thread Cert.SampleIdeal.nD Cert.SampleIdeal.τ).loc Cert.SampleIdeal.main_v6_5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v6_0) = v0 c
          ∧ r.2.mem ((c.tc : Thread Cert.SampleIdeal.nD Cert.SampleIdeal.τ).loc Cert.SampleIdeal.main_v6_1) = v1 c
          ∧ r.2.mem ((c.tc : Thread Cert.SampleIdeal.nD Cert.SampleIdeal.τ).loc Cert.SampleIdeal.main_v6_2) = v2 c
          ∧ r.2.mem ((c.tc : Thread Cert.SampleIdeal.nD Cert.SampleIdeal.τ).loc Cert.SampleIdeal.main_v6_3) = v3 c
          ∧ r.2.mem ((c.tc : Thread Cert.SampleIdeal.nD Cert.SampleIdeal.τ).loc Cert.SampleIdeal.main_v6_4) = v4 c
          ∧ r.2.mem ((c.tc : Thread Cert.SampleIdeal.nD Cert.SampleIdeal.τ).loc Cert.SampleIdeal.main_v6_5) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v23) = v0 c
          ∧ r.2.mem ((c.tc : Thread Cert.SampleReferenceIdeal.nD Cert.SampleReferenceIdeal.τ).loc Cert.SampleReferenceIdeal.main_v25) = v1 c
          ∧ r.2.mem ((c.tc : Thread Cert.SampleReferenceIdeal.nD Cert.SampleReferenceIdeal.τ).loc Cert.SampleReferenceIdeal.main_v27) = v2 c
          ∧ r.2.mem ((c.tc : Thread Cert.SampleReferenceIdeal.nD Cert.SampleReferenceIdeal.τ).loc Cert.SampleReferenceIdeal.main_v29) = v3 c
          ∧ r.2.mem ((c.tc : Thread Cert.SampleReferenceIdeal.nD Cert.SampleReferenceIdeal.τ).loc Cert.SampleReferenceIdeal.main_v31) = v4 c
          ∧ r.2.mem ((c.tc : Thread Cert.SampleReferenceIdeal.nD Cert.SampleReferenceIdeal.τ).loc Cert.SampleReferenceIdeal.main_v33) = v5 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v265) = v0 c
          ∧ r.2.mem ((c.tc : Thread Cert.ConvReferenceIdeal.nD Cert.ConvReferenceIdeal.τ).loc Cert.ConvReferenceIdeal.main_v266) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hMemory : Cert.Memory.Facts) (hMemoryIdeal : Cert.MemoryIdeal.Facts) (hMemoryReferenceIdeal : Cert.MemoryReferenceIdeal.Facts) (hSample : Cert.Sample.Facts) (hSampleIdeal : Cert.SampleIdeal.Facts) (hSampleReferenceIdeal : Cert.SampleReferenceIdeal.Facts) (hConv : Cert.Conv.Facts) (hConvIdeal : Cert.ConvIdeal.Facts) (hConvReferenceIdeal : Cert.ConvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal (hKernelIdeal := hKernelIdeal) (hReferenceIdeal := hReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Memory_MemoryIdeal
    ∧ algebraic_MemoryIdeal_MemoryReferenceIdeal (hMemoryIdeal := hMemoryIdeal) (hMemoryReferenceIdeal := hMemoryReferenceIdeal)
    ∧ preserves_Sample_SampleIdeal
    ∧ algebraic_SampleIdeal_SampleReferenceIdeal (hSampleIdeal := hSampleIdeal) (hSampleReferenceIdeal := hSampleReferenceIdeal)
    ∧ preserves_Conv_ConvIdeal
    ∧ algebraic_ConvIdeal_ConvReferenceIdeal (hConvIdeal := hConvIdeal) (hConvReferenceIdeal := hConvReferenceIdeal)
-- ==== Kernel.lean ====
abbrev S32x16 : Shape := ⟨2, ![32, 16]⟩
abbrev S16x2048x2048 : Shape := ⟨3, ![16, 2048, 2048]⟩
abbrev S16x512x256 : Shape := ⟨3, ![16, 512, 256]⟩
abbrev S1x2048x128 : Shape := ⟨3, ![1, 2048, 128]⟩
abbrev S1x512x256 : Shape := ⟨3, ![1, 512, 256]⟩
abbrev S8x128x256 : Shape := ⟨3, ![8, 128, 256]⟩
abbrev S8x256x128 : Shape := ⟨3, ![8, 256, 128]⟩
abbrev S8x8x256 : Shape := ⟨3, ![8, 8, 256]⟩
abbrev S8x256x256 : Shape := ⟨3, ![8, 256, 256]⟩
abbrev S1x1 : Shape := ⟨2, ![1, 1]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S8x128 : Shape := ⟨2, ![8, 128]⟩
abbrev S2048x128 : Shape := ⟨2, ![2048, 128]⟩
abbrev S8x2048 : Shape := ⟨2, ![8, 2048]⟩
abbrev S1x2048 : Shape := ⟨2, ![1, 2048]⟩
abbrev S8x256 : Shape := ⟨2, ![8, 256]⟩
abbrev S1x8x256 : Shape := ⟨3, ![1, 8, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩

abbrev nBuf : Space → Nat
  | .hbm => 7
  | .vmem => 16
  | .smem => 1
  | _ => 0

abbrev bufTy : (tb : Table) → Fin (tcTables nBuf tb) → BufTy
  | .hbm, ⟨0, _⟩ => ⟨S32x16, .f32⟩
  | .hbm, ⟨1, _⟩ => ⟨S16x2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x512x256, .f32⟩
  | .hbm, ⟨6, _⟩ => ⟨S16x2048x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x512x256, .f32⟩
  | .local _ .vmem, ⟨9, _⟩ => ⟨S1x512x256, .f32⟩
  | .local _ .vmem, ⟨10, _⟩ => ⟨S1x2048x128, .bf16⟩
  | .local _ .vmem, ⟨11, _⟩ => ⟨S1x2048x128, .bf16⟩
  | .local _ .vmem, ⟨12, _⟩ => ⟨S8x128x256, .bf16⟩
  | .local _ .vmem, ⟨13, _⟩ => ⟨S8x256x128, .bf16⟩
  | .local _ .vmem, ⟨14, _⟩ => ⟨S8x8x256, .f32⟩
  | .local _ .vmem, ⟨15, _⟩ => ⟨S8x256x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def k0_off1 (i : grid0.Coords) : Fin 2 → Nat :=
  let c31 : Index := 31#32
  let arg1 : BitVec 32 := BitVec.ofNat 32 (i 1).val
  let v0 : Index := Scalar.indexCast arg1
  ![31, v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "c2" => some (((11863283 / 134217728) * (Real.log 2)⁻¹ : ℝ) : EReal)
  | "log2e" => some (((Real.log 2)⁻¹ : ℝ) : EReal)
  | "mask" => some ⊥
  | _ => none
-- ==== ReferenceIdeal.lean ====
abbrev S32x16 : Shape := ⟨2, ![32, 16]⟩
abbrev S16x2048x2048 : Shape := ⟨3, ![16, 2048, 2048]⟩
abbrev S16x512x256 : Shape := ⟨3, ![16, 512, 256]⟩
abbrev S16x2048x16x128 : Shape := ⟨4, ![16, 2048, 16, 128]⟩
abbrev S16x8x256x16x128 : Shape := ⟨5, ![16, 8, 256, 16, 128]⟩
abbrev S16x1792x16x128 : Shape := ⟨4, ![16, 1792, 16, 128]⟩
abbrev S16x14x128x16x128 : Shape := ⟨5, ![16, 14, 128, 16, 128]⟩
abbrev S_ : Shape := ⟨0, ![]⟩
abbrev S16x14x16x128 : Shape := ⟨4, ![16, 14, 16, 128]⟩
abbrev S16x7x2x16x128 : Shape := ⟨5, ![16, 7, 2, 16, 128]⟩
abbrev S16x7x16x128 : Shape := ⟨4, ![16, 7, 16, 128]⟩
abbrev S2048 : Shape := ⟨1, ![2048]⟩
abbrev S7 : Shape := ⟨1, ![7]⟩
abbrev S1x7 : Shape := ⟨2, ![1, 7]⟩
abbrev S2048x1 : Shape := ⟨2, ![2048, 1]⟩
abbrev S2048x7 : Shape := ⟨2, ![2048, 7]⟩
abbrev S1x2048x1x7 : Shape := ⟨4, ![1, 2048, 1, 7]⟩
abbrev S16x16x7x2048 : Shape := ⟨4, ![16, 16, 7, 2048]⟩
abbrev S16x2048x16x7 : Shape := ⟨4, ![16, 2048, 16, 7]⟩
abbrev S16x2048x16x3 : Shape := ⟨4, ![16, 2048, 16, 3]⟩
abbrev S1x2048x1x1 : Shape := ⟨4, ![1, 2048, 1, 1]⟩
abbrev S16x2048x16x3x1 : Shape := ⟨5, ![16, 2048, 16, 3, 1]⟩
abbrev S8 : Shape := ⟨1, ![8]⟩
abbrev S1x1x1x1x8 : Shape := ⟨5, ![1, 1, 1, 1, 8]⟩
abbrev S16x2048x16x3x8 : Shape := ⟨5, ![16, 2048, 16, 3, 8]⟩
abbrev S16x2048x16x8 : Shape := ⟨4, ![16, 2048, 16, 8]⟩
abbrev S1x8 : Shape := ⟨2, ![1, 8]⟩
abbrev S2048x8 : Shape := ⟨2, ![2048, 8]⟩
abbrev S1x2048x1x8x1 : Shape := ⟨5, ![1, 2048, 1, 8, 1]⟩
abbrev S256 : Shape := ⟨1, ![256]⟩
abbrev S1x256 : Shape := ⟨2, ![1, 256]⟩
abbrev S2048x256 : Shape := ⟨2, ![2048, 256]⟩
abbrev S1x2048x1x1x256 : Shape := ⟨5, ![1, 2048, 1, 1, 256]⟩
abbrev S16x2048x16x8x1 : Shape := ⟨5, ![16, 2048, 16, 8, 1]⟩
abbrev S16x2048x16x8x256 : Shape := ⟨5, ![16, 2048, 16, 8, 256]⟩
abbrev S16x2x256x256 : Shape := ⟨4, ![16, 2, 256, 256]⟩
abbrev S256x16x2x256 : Shape := ⟨4, ![256, 16, 2, 256]⟩
abbrev S1x256x1x16x1x2x1x256 : Shape := ⟨8, ![1, 256, 1, 16, 1, 2, 1, 256]⟩
abbrev S8x256x1x16x1x2x1x256 : Shape := ⟨8, ![8, 256, 1, 16, 1, 2, 1, 256]⟩
abbrev S2048x16x2x256 : Shape := ⟨4, ![2048, 16, 2, 256]⟩
abbrev S2048x1x8x1 : Shape := ⟨4, ![2048, 1, 8, 1]⟩
abbrev S2048x16x1x256 : Shape := ⟨4, ![2048, 16, 1, 256]⟩
abbrev S1x16 : Shape := ⟨2, ![1, 16]⟩
abbrev S16 : Shape := ⟨1, ![16]⟩
abbrev S1x16x1x1 : Shape := ⟨4, ![1, 16, 1, 1]⟩
abbrev S2048x16x8x256 : Shape := ⟨4, ![2048, 16, 8, 256]⟩
abbrev S16x16x8x256x2048 : Shape := ⟨5, ![16, 16, 8, 256, 2048]⟩
abbrev S1x2048x16x8x256 : Shape := ⟨5, ![1, 2048, 16, 8, 256]⟩
abbrev S16x2048x16 : Shape := ⟨3, ![16, 2048, 16]⟩
abbrev S16x2048x16x1x1 : Shape := ⟨5, ![16, 2048, 16, 1, 1]⟩
abbrev S16x16x128x2048 : Shape := ⟨4, ![16, 16, 128, 2048]⟩

abbrev nBuf : Space → Nat
  | .hbm => 186
  | .vmem => 0
  | .smem => 0
  | _ => 0

abbrev hbmTy0_0 (i : Nat) : BufTy := match i % 128 with
  | 0 => ⟨S32x16, .f32⟩
  | 1 => ⟨S16x2048x2048, .f32⟩
  | 2 => ⟨S16x2048x2048, .f32⟩
  | 3 => ⟨S16x2048x2048, .f32⟩
  | 4 => ⟨S16x2048x2048, .f32⟩
  | 5 => ⟨S16x512x256, .f32⟩
  | 6 => ⟨S16x2048x16x128, .f32⟩
  | 7 => ⟨S16x2048x16x128, .f32⟩
  | 8 => ⟨S16x2048x16x128, .f32⟩
  | 9 => ⟨S16x8x256x16x128, .f32⟩
  | 10 => ⟨S16x8x256x16x128, .f32⟩
  | 11 => ⟨S16x1792x16x128, .f32⟩
  | 12 => ⟨S16x14x128x16x128, .f32⟩
  | 13 => ⟨S_, .f32⟩
  | 14 => ⟨S16x14x16x128, .f32⟩
  | 15 => ⟨S_, .f32⟩
  | 16 => ⟨S16x14x16x128, .f32⟩
  | 17 => ⟨S16x14x16x128, .f32⟩
  | 18 => ⟨S16x7x2x16x128, .f32⟩
  | 19 => ⟨S_, .f32⟩
  | 20 => ⟨S16x7x16x128, .f32⟩
  | 21 => ⟨S_, .f32⟩
  | 22 => ⟨S16x7x16x128, .f32⟩
  | 23 => ⟨S16x7x16x128, .f32⟩
  | 24 => ⟨S2048, .i32⟩
  | 25 => ⟨S_, .i32⟩
  | 26 => ⟨S_, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i1⟩
  | 33 => ⟨S2048, .i32⟩
  | 34 => ⟨S2048, .i32⟩
  | 35 => ⟨S_, .i32⟩
  | 36 => ⟨S2048, .i32⟩
  | 37 => ⟨S2048, .i1⟩
  | 38 => ⟨S2048, .i1⟩
  | 39 => ⟨S_, .i32⟩
  | 40 => ⟨S2048, .i32⟩
  | 41 => ⟨S2048, .i32⟩
  | 42 => ⟨S2048, .i32⟩
  | 43 => ⟨S7, .i32⟩
  | 44 => ⟨S1x7, .i32⟩
  | 45 => ⟨S2048x1, .i32⟩
  | 46 => ⟨S2048x7, .i32⟩
  | 47 => ⟨S2048x7, .i32⟩
  | 48 => ⟨S2048x7, .i1⟩
  | 49 => ⟨S1x2048x1x7, .i1⟩
  | 50 => ⟨S16x16x7x2048, .f32⟩
  | 51 => ⟨S16x2048x16x7, .f32⟩
  | 52 => ⟨S_, .f32⟩
  | 53 => ⟨S_, .f32⟩
  | 54 => ⟨S16x2048x16x7, .i1⟩
  | 55 => ⟨S16x2048x16x7, .f32⟩
  | 56 => ⟨S16x2048x16x7, .f32⟩
  | 57 => ⟨S16x2048x16x3, .f32⟩
  | 58 => ⟨S16x2048x16x3, .i32⟩
  | 59 => ⟨S1x2048x1x1, .i32⟩
  | 60 => ⟨S16x2048x16x3, .i32⟩
  | 61 => ⟨S16x2048x16x3, .i1⟩
  | 62 => ⟨S16x2048x16x3x1, .i32⟩
  | 63 => ⟨S8, .i32⟩
  | 64 => ⟨S1x1x1x1x8, .i32⟩
  | 65 => ⟨S16x2048x16x3x8, .i32⟩
  | 66 => ⟨S16x2048x16x3x8, .i32⟩
  | 67 => ⟨S16x2048x16x3x8, .i1⟩
  | 68 => ⟨S16x2048x16x3x1, .i1⟩
  | 69 => ⟨S16x2048x16x3x8, .i1⟩
  | 70 => ⟨S16x2048x16x3x8, .i1⟩
  | 71 => ⟨S_, .i1⟩
  | 72 => ⟨S16x2048x16x8, .i1⟩
  | 73 => ⟨S2048x1, .i32⟩
  | 74 => ⟨S8, .i32⟩
  | 75 => ⟨S1x8, .i32⟩
  | 76 => ⟨S2048x8, .i32⟩
  | 77 => ⟨S2048x8, .i32⟩
  | 78 => ⟨S2048x8, .i1⟩
  | 79 => ⟨S1x2048x1x8x1, .i1⟩
  | 80 => ⟨S256, .i32⟩
  | 81 => ⟨S1x256, .i32⟩
  | 82 => ⟨S2048, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i1⟩
  | 94 => ⟨S_, .i32⟩
  | 95 => ⟨S2048, .i32⟩
  | 96 => ⟨S2048, .i1⟩
  | 97 => ⟨S_, .i32⟩
  | 98 => ⟨S_, .i1⟩
  | 99 => ⟨S2048, .i1⟩
  | 100 => ⟨S2048, .i1⟩
  | 101 => ⟨S2048, .i1⟩
  | 102 => ⟨S2048, .i32⟩
  | 103 => ⟨S2048, .i32⟩
  | 104 => ⟨S2048, .i32⟩
  | 105 => ⟨S2048x1, .i32⟩
  | 106 => ⟨S2048x256, .i32⟩
  | 107 => ⟨S2048x256, .i32⟩
  | 108 => ⟨S2048x256, .i1⟩
  | 109 => ⟨S1x2048x1x1x256, .i1⟩
  | 110 => ⟨S16x2048x16x8x1, .i1⟩
  | 111 => ⟨S16x2048x16x8x256, .i1⟩
  | 112 => ⟨S16x2048x16x8x256, .i1⟩
  | 113 => ⟨S16x2048x16x8x256, .i1⟩
  | 114 => ⟨S16x2048x16x8x256, .i1⟩
  | 115 => ⟨S16x2x256x256, .f32⟩
  | 116 => ⟨S256x16x2x256, .f32⟩
  | 117 => ⟨S1x256x1x16x1x2x1x256, .f32⟩
  | 118 => ⟨S8x256x1x16x1x2x1x256, .f32⟩
  | 119 => ⟨S2048x16x2x256, .f32⟩
  | 120 => ⟨S2048x1, .i32⟩
  | 121 => ⟨S8, .i32⟩
  | 122 => ⟨S1x8, .i32⟩
  | 123 => ⟨S2048x8, .i32⟩
  | 124 => ⟨S2048x8, .i32⟩
  | 125 => ⟨S2048x8, .i32⟩
  | 126 => ⟨S2048x1x8x1, .i32⟩
  | 127 => ⟨S_, .i32⟩
  | _ => ⟨S32x16, .f32⟩

abbrev hbmTy0_1 (i : Nat) : BufTy := match i % 128 with
  | 0 => ⟨S2048x1x8x1, .i32⟩
  | 1 => ⟨S2048x1x8x1, .i1⟩
  | 2 => ⟨S2048x16x1x256, .f32⟩
  | 3 => ⟨S_, .i32⟩
  | 4 => ⟨S2048x1x8x1, .i32⟩
  | 5 => ⟨S2048x1x8x1, .i1⟩
  | 6 => ⟨S2048x16x1x256, .f32⟩
  | 7 => ⟨S1x16, .f32⟩
  | 8 => ⟨S16, .f32⟩
  | 9 => ⟨S1x16x1x1, .f32⟩
  | 10 => ⟨S2048x16x8x256, .i1⟩
  | 11 => ⟨S2048x16x8x256, .f32⟩
  | 12 => ⟨S2048x16x8x256, .f32⟩
  | 13 => ⟨S2048x16x8x256, .f32⟩
  | 14 => ⟨S2048x16x8x256, .i1⟩
  | 15 => ⟨S2048x16x8x256, .f32⟩
  | 16 => ⟨S2048x16x8x256, .f32⟩
  | 17 => ⟨S16x16x8x256x2048, .f32⟩
  | 18 => ⟨S16x2048x16x8x256, .f32⟩
  | 19 => ⟨S_, .f32⟩
  | 20 => ⟨S16x2048x16x8x256, .f32⟩
  | 21 => ⟨S16x2048x16x8x256, .f32⟩
  | 22 => ⟨S1x2048x16x8x256, .f32⟩
  | 23 => ⟨S16x2048x16x8x256, .f32⟩
  | 24 => ⟨S16x2048x16x8x256, .f32⟩
  | 25 => ⟨S_, .f32⟩
  | 26 => ⟨S_, .f32⟩
  | 27 => ⟨S16x2048x16x8x256, .f32⟩
  | 28 => ⟨S16x2048x16x8x256, .f32⟩
  | 29 => ⟨S_, .f32⟩
  | 30 => ⟨S16x2048x16, .f32⟩
  | 31 => ⟨S_, .f32⟩
  | 32 => ⟨S16x2048x16, .f32⟩
  | 33 => ⟨S16x2048x16, .f32⟩
  | 34 => ⟨S16x2048x16x1x1, .f32⟩
  | 35 => ⟨S16x2048x16x8x256, .f32⟩
  | 36 => ⟨S16x2048x16x8x256, .f32⟩
  | 37 => ⟨S16x2048x16x8x256, .f32⟩
  | 38 => ⟨S_, .f32⟩
  | 39 => ⟨S16x2048x16, .f32⟩
  | 40 => ⟨S16x2048x16x1x1, .f32⟩
  | 41 => ⟨S16x2048x16x1x1, .f32⟩
  | 42 => ⟨S16x2048x16x8x256, .f32⟩
  | 43 => ⟨S16x2048x16x8x256, .f32⟩
  | 44 => ⟨S16x2048x16x8x256, .f32⟩
  | 45 => ⟨S16x16x128x2048, .f32⟩
  | 46 => ⟨S16x2048x16x128, .f32⟩
  | 47 => ⟨S16x2048x2048, .f32⟩
  | 48 => ⟨S16x2048x2048, .f32⟩
  | 49 => ⟨S16x2048x2048, .f32⟩
  | 50 => ⟨S_, .f32⟩
  | 51 => ⟨S16x2048x2048, .f32⟩
  | 52 => ⟨S16x2048x2048, .f32⟩
  | 53 => ⟨S_, .f32⟩
  | 54 => ⟨S16x2048x2048, .f32⟩
  | 55 => ⟨S16x2048x2048, .f32⟩
  | 56 => ⟨S16x2048x2048, .f32⟩
  | 57 => ⟨S16x2048x2048, .bf16⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v25 : Ref sig .tc := ⟨.hbm, 56, rfl⟩
abbrev main_values : Ref sig .tc := ⟨.hbm, 57, rfl⟩
abbrev main_indices : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_5 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_v5 : Ref sig .tc := ⟨.hbm, 92, rfl⟩
abbrev main_call2_v6 : Ref sig .tc := ⟨.hbm, 93, rfl⟩
abbrev main_call2_c_2 : Ref sig .tc := ⟨.hbm, 94, rfl⟩
abbrev main_call2_v7 : Ref sig .tc := ⟨.hbm, 95, rfl⟩
abbrev main_call2_v8 : Ref sig .tc := ⟨.hbm, 96, rfl⟩
abbrev main_call2_c_3 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_c_6 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_c_7 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v78 : Ref sig .tc := ⟨.hbm, 141, rfl⟩
abbrev main_call5_v0 : Ref sig .tc := ⟨.hbm, 142, rfl⟩
abbrev main_call5_v1 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_cst_8 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_9 : Ref sig .tc := ⟨.hbm, 153, rfl⟩
abbrev main_call6_v0 : Ref sig .tc := ⟨.hbm, 154, rfl⟩
abbrev main_call6_v1 : Ref sig .tc := ⟨.hbm, 155, rfl⟩
abbrev main_v87 : Ref sig .tc := ⟨.hbm, 156, rfl⟩
abbrev main_call7_cst : Ref sig .tc := ⟨.hbm, 157, rfl⟩
abbrev main_call7_v0 : Ref sig .tc := ⟨.hbm, 158, rfl⟩
abbrev main_call7_cst_0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_v5 : Ref sig .tc := ⟨.hbm, 164, rfl⟩
abbrev main_call7_v6 : Ref sig .tc := ⟨.hbm, 165, rfl⟩
abbrev main_call7_cst_1 : Ref sig .tc := ⟨.hbm, 166, rfl⟩
abbrev main_call7_v7 : Ref sig .tc := ⟨.hbm, 167, rfl⟩
abbrev main_call7_v8 : Ref sig .tc := ⟨.hbm, 168, rfl⟩
abbrev main_call7_v9 : Ref sig .tc := ⟨.hbm, 169, rfl⟩
abbrev main_call7_v10 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_10 : Ref sig .tc := ⟨.hbm, 178, rfl⟩
abbrev main_v95 : Ref sig .tc := ⟨.hbm, 179, rfl⟩
abbrev main_v96 : Ref sig .tc := ⟨.hbm, 180, rfl⟩
abbrev main_cst_11 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩

abbrev nD : Nat := 1
abbrev τ : Topo := Topo.v7x

variable {F : FTy → Type} [FloatOps F]
-- ==== Projection.lean ====
abbrev S16x2048x2048 : Shape := ⟨3, ![16, 2048, 2048]⟩
abbrev S1x2048 : Shape := ⟨2, ![1, 2048]⟩
abbrev S1x2048x12288 : Shape := ⟨3, ![1, 2048, 12288]⟩
abbrev S2048x12288 : Shape := ⟨2, ![2048, 12288]⟩
abbrev S32768x2048 : Shape := ⟨2, ![32768, 2048]⟩
abbrev S2048 : Shape := ⟨1, ![2048]⟩
abbrev S512x2048 : Shape := ⟨2, ![512, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 28
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x12288, .f32⟩
  | .hbm, ⟨3, _⟩ => ⟨S2048x12288, .f32⟩
  | .hbm, ⟨4, _⟩ => ⟨S2048x12288, .bf16⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectionReferenceIdeal.lean ====
abbrev S16x2048x2048 : Shape := ⟨3, ![16, 2048, 2048]⟩
abbrev S1x2048 : Shape := ⟨2, ![1, 2048]⟩
abbrev S1x2048x12288 : Shape := ⟨3, ![1, 2048, 12288]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S2048 : Shape := ⟨1, ![2048]⟩
abbrev S2048x12288 : Shape := ⟨2, ![2048, 12288]⟩
abbrev S32768x12288 : Shape := ⟨2, ![32768, 12288]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x12288, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S2048x12288, .f32⟩
  | .hbm, ⟨22, _⟩ => ⟨S32768x12288, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Memory.lean ====
abbrev S16x256x2048 : Shape := ⟨3, ![16, 256, 2048]⟩
abbrev S1x2048 : Shape := ⟨2, ![1, 2048]⟩
abbrev S1x2048x512 : Shape := ⟨3, ![1, 2048, 512]⟩
abbrev S2048x512 : Shape := ⟨2, ![2048, 512]⟩
abbrev S2048x1024 : Shape := ⟨2, ![2048, 1024]⟩
abbrev S4096x2048 : Shape := ⟨2, ![4096, 2048]⟩
abbrev S2048 : Shape := ⟨1, ![2048]⟩
abbrev S4096x512 : Shape := ⟨2, ![4096, 512]⟩
abbrev S512x2048 : Shape := ⟨2, ![512, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .bf16⟩
  | .hbm, ⟨8, _⟩ => ⟨S4096x2048, .f32⟩
  | .hbm, ⟨9, _⟩ => ⟨S2048, .f32⟩
  | .hbm, ⟨10, _⟩ => ⟨S1x2048, .f32⟩
  | .hbm, ⟨11, _⟩ => ⟨S4096x512, .f32⟩
  | .hbm, ⟨12, _⟩ => ⟨S4096x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemoryReferenceIdeal.lean ====
abbrev S16x256x2048 : Shape := ⟨3, ![16, 256, 2048]⟩
abbrev S1x2048 : Shape := ⟨2, ![1, 2048]⟩
abbrev S1x2048x512 : Shape := ⟨3, ![1, 2048, 512]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S2048x512 : Shape := ⟨2, ![2048, 512]⟩
abbrev S4096x512 : Shape := ⟨2, ![4096, 512]⟩

abbrev nBuf : Space → Nat
  | .hbm => 26
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S2048x512, .f32⟩
  | .hbm, ⟨23, _⟩ => ⟨S4096x512, .f32⟩
  | .hbm, ⟨24, _⟩ => ⟨S2048x512, .f32⟩
  | .hbm, ⟨25, _⟩ => ⟨S4096x512, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Sample.lean ====
abbrev S32x4x2048 : Shape := ⟨3, ![32, 4, 2048]⟩
abbrev S1x2048 : Shape := ⟨2, ![1, 2048]⟩
abbrev S1x2048x12288 : Shape := ⟨3, ![1, 2048, 12288]⟩
abbrev S2048x12288 : Shape := ⟨2, ![2048, 12288]⟩
abbrev S_ : Shape := ⟨0, ![]⟩
abbrev S32x16x2048 : Shape := ⟨3, ![32, 16, 2048]⟩
abbrev S512x2048 : Shape := ⟨2, ![512, 2048]⟩
abbrev S2048 : Shape := ⟨1, ![2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x12288, .f32⟩
  | .hbm, ⟨3, _⟩ => ⟨S2048x12288, .f32⟩
  | .hbm, ⟨4, _⟩ => ⟨S2048x12288, .bf16⟩
  | .hbm, ⟨5, _⟩ => ⟨S_, .i32⟩
  | .hbm, ⟨6, _⟩ => ⟨S_, .f32⟩
  | .hbm, ⟨7, _⟩ => ⟨S32x16x2048, .f32⟩
  | .hbm, ⟨8, _⟩ => ⟨S512x2048, .f32⟩
  | .hbm, ⟨9, _⟩ => ⟨S2048, .f32⟩
  | .hbm, ⟨10, _⟩ => ⟨S1x2048, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SampleReferenceIdeal.lean ====
abbrev S32x4x2048 : Shape := ⟨3, ![32, 4, 2048]⟩
abbrev S1x2048 : Shape := ⟨2, ![1, 2048]⟩
abbrev S1x2048x12288 : Shape := ⟨3, ![1, 2048, 12288]⟩
abbrev S_ : Shape := ⟨0, ![]⟩
abbrev S32x4 : Shape := ⟨2, ![32, 4]⟩
abbrev S32x4x1 : Shape := ⟨3, ![32, 4, 1]⟩
abbrev S2048 : Shape := ⟨1, ![2048]⟩
abbrev S1x1x2048 : Shape := ⟨3, ![1, 1, 2048]⟩
abbrev S2048x12288 : Shape := ⟨2, ![2048, 12288]⟩
abbrev S32x4x12288 : Shape := ⟨3, ![32, 4, 12288]⟩
abbrev S32x16x2048 : Shape := ⟨3, ![32, 16, 2048]⟩
abbrev S512x2048 : Shape := ⟨2, ![512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x12288, .f32⟩
  | .hbm, ⟨3, _⟩ => ⟨S32x4x2048, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x2048, .f32⟩
  | .hbm, ⟨15, _⟩ => ⟨S32x4x2048, .f32⟩
  | .hbm, ⟨16, _⟩ => ⟨S2048, .f32⟩
  | .hbm, ⟨17, _⟩ => ⟨S1x1x2048, .f32⟩
  | .hbm, ⟨18, _⟩ => ⟨S32x4x2048, .f32⟩
  | .hbm, ⟨19, _⟩ => ⟨S32x4x2048, .f32⟩
  | .hbm, ⟨20, _⟩ => ⟨S2048x12288, .f32⟩
  | .hbm, ⟨21, _⟩ => ⟨S32x4x12288, .f32⟩
  | .hbm, ⟨22, _⟩ => ⟨S32x4x2048, .f32⟩
  | .hbm, ⟨23, _⟩ => ⟨S32x4x2048, .f32⟩
  | .hbm, ⟨24, _⟩ => ⟨S32x4x2048, .f32⟩
  | .hbm, ⟨25, _⟩ => ⟨S32x4x2048, .f32⟩
  | .hbm, ⟨26, _⟩ => ⟨S32x4x2048, .f32⟩
  | .hbm, ⟨27, _⟩ => ⟨S32x4x2048, .f32⟩
  | .hbm, ⟨28, _⟩ => ⟨S_, .i32⟩
  | .hbm, ⟨29, _⟩ => ⟨S_, .f32⟩
  | .hbm, ⟨30, _⟩ => ⟨S32x16x2048, .f32⟩
  | .hbm, ⟨31, _⟩ => ⟨S512x2048, .f32⟩
  | .hbm, ⟨32, _⟩ => ⟨S_, .i32⟩
  | .hbm, ⟨33, _⟩ => ⟨S_, .f32⟩
  | .hbm, ⟨34, _⟩ => ⟨S32x16x2048, .f32⟩
  | .hbm, ⟨35, _⟩ => ⟨S512x2048, .f32⟩
  | .hbm, ⟨36, _⟩ => ⟨S_, .i32⟩
  | .hbm, ⟨37, _⟩ => ⟨S_, .f32⟩
  | .hbm, ⟨38, _⟩ => ⟨S32x16x2048, .f32⟩
  | .hbm, ⟨39, _⟩ => ⟨S512x2048, .f32⟩
  | .hbm, ⟨40, _⟩ => ⟨S_, .i32⟩
  | .hbm, ⟨41, _⟩ => ⟨S_, .f32⟩
  | .hbm, ⟨42, _⟩ => ⟨S32x16x2048, .f32⟩
  | .hbm, ⟨43, _⟩ => ⟨S512x2048, .f32⟩
  | .hbm, ⟨44, _⟩ => ⟨S_, .i32⟩
  | .hbm, ⟨45, _⟩ => ⟨S_, .f32⟩
  | .hbm, ⟨46, _⟩ => ⟨S32x16x2048, .f32⟩
  | .hbm, ⟨47, _⟩ => ⟨S512x2048, .f32⟩
  | .hbm, ⟨48, _⟩ => ⟨S_, .i32⟩
  | .hbm, ⟨49, _⟩ => ⟨S_, .f32⟩
  | .hbm, ⟨50, _⟩ => ⟨S32x16x2048, .f32⟩
  | .hbm, ⟨51, _⟩ => ⟨S512x2048, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_call3_v0 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_call4_v0 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_call5_v0 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Conv.lean ====
abbrev S16x2048x2048 : Shape := ⟨3, ![16, 2048, 2048]⟩
abbrev S1x31x1024 : Shape := ⟨3, ![1, 31, 1024]⟩
abbrev S1x1024 : Shape := ⟨2, ![1, 1024]⟩
abbrev S1x1024x2048 : Shape := ⟨3, ![1, 1024, 2048]⟩
abbrev S1024x2048 : Shape := ⟨2, ![1024, 2048]⟩
abbrev S31x1024 : Shape := ⟨2, ![31, 1024]⟩
abbrev S1024 : Shape := ⟨1, ![1024]⟩
abbrev S16x30x1024 : Shape := ⟨3, ![16, 30, 1024]⟩
abbrev S1x256x2048 : Shape := ⟨3, ![1, 256, 2048]⟩
abbrev S1x32x2048 : Shape := ⟨3, ![1, 32, 2048]⟩
abbrev S1x30x1024 : Shape := ⟨3, ![1, 30, 1024]⟩
abbrev S288x1024 : Shape := ⟨2, ![288, 1024]⟩
abbrev S296x1024 : Shape := ⟨2, ![296, 1024]⟩
abbrev S256x1024 : Shape := ⟨2, ![256, 1024]⟩
abbrev S256x2048 : Shape := ⟨2, ![256, 2048]⟩
abbrev S32x2048 : Shape := ⟨2, ![32, 2048]⟩
abbrev S32x1024 : Shape := ⟨2, ![32, 1024]⟩
abbrev S8x1024 : Shape := ⟨2, ![8, 1024]⟩
abbrev S1x128 : Shape := ⟨2, ![1, 128]⟩
abbrev S136x128 : Shape := ⟨2, ![136, 128]⟩
abbrev S128x128 : Shape := ⟨2, ![128, 128]⟩
abbrev S256 : Shape := ⟨1, ![256]⟩
abbrev S256x1 : Shape := ⟨2, ![256, 1]⟩
abbrev S30x1024 : Shape := ⟨2, ![30, 1024]⟩

abbrev nBuf : Space → Nat
  | .hbm => 18
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x2048, .f32⟩
  | .hbm, ⟨7, _⟩ => ⟨S1024x2048, .f32⟩
  | .hbm, ⟨8, _⟩ => ⟨S1024x2048, .bf16⟩
  | .hbm, ⟨9, _⟩ => ⟨S31x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16x2048x2048, .bf16⟩
  | .hbm, ⟨17, _⟩ => ⟨S16x30x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x32x2048, .f32⟩
  | .local _ .vmem, ⟨3, _⟩ => ⟨S1x32x2048, .f32⟩
  | .local _ .vmem, ⟨4, _⟩ => ⟨S1x256x2048, .f32⟩
  | .local _ .vmem, ⟨5, _⟩ => ⟨S1x256x2048, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x30x1024, .f32⟩
  | .local _ .vmem, ⟨14, _⟩ => ⟨S1x30x1024, .f32⟩
  | .local _ .vmem, ⟨15, _⟩ => ⟨S288x1024, .f32⟩
  | .local _ .vmem, ⟨16, _⟩ => ⟨S296x1024, .f32⟩
  | .local _ .vmem, ⟨17, _⟩ => ⟨S256x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c7_i32 : BitVec 32 := 7#32
  let v3294 : BitVec 1 := Scalar.cmpi .eq arg1 c7_i32
  let v3295 : BitVec 32 := Scalar.extui v3294
  let c0_i32_2053 : BitVec 32 := 0#32
  let v3296 : BitVec 1 := Scalar.cmpi .ne v3295 c0_i32_2053
  v3296

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x30x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvReferenceIdeal.lean ====
abbrev S16x2048x2048 : Shape := ⟨3, ![16, 2048, 2048]⟩
abbrev S1x31x1024 : Shape := ⟨3, ![1, 31, 1024]⟩
abbrev S1x1024 : Shape := ⟨2, ![1, 1024]⟩
abbrev S1x1024x2048 : Shape := ⟨3, ![1, 1024, 2048]⟩
abbrev S16x2048x1024 : Shape := ⟨3, ![16, 2048, 1024]⟩
abbrev S_ : Shape := ⟨0, ![]⟩
abbrev S16x30x1024 : Shape := ⟨3, ![16, 30, 1024]⟩
abbrev S16x2078x1024 : Shape := ⟨3, ![16, 2078, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1024x2048 : Shape := ⟨2, ![1024, 2048]⟩

abbrev nBuf : Space → Nat
  | .hbm => 292
  | .vmem => 0
  | .smem => 0
  | _ => 0

abbrev hbmTy0_0 (i : Nat) : BufTy := match i % 128 with
  | 0 => ⟨S16x2048x2048, .f32⟩
  | 1 => ⟨S16x2048x2048, .f32⟩
  | 2 => ⟨S1x31x1024, .f32⟩
  | 3 => ⟨S1x1024, .f32⟩
  | 4 => ⟨S1x1024, .f32⟩
  | 5 => ⟨S1x1024, .f32⟩
  | 6 => ⟨S1x1024x2048, .f32⟩
  | 7 => ⟨S16x2048x1024, .f32⟩
  | 8 => ⟨S16x2048x1024, .f32⟩
  | 9 => ⟨S16x2048x1024, .f32⟩
  | 10 => ⟨S16x2048x1024, .f32⟩
  | 11 => ⟨S_, .f32⟩
  | 12 => ⟨S16x2048x1024, .f32⟩
  | 13 => ⟨S16x2048x1024, .f32⟩
  | 14 => ⟨S_, .f32⟩
  | 15 => ⟨S16x2048x1024, .f32⟩
  | 16 => ⟨S16x2048x1024, .f32⟩
  | 17 => ⟨S16x2048x1024, .f32⟩
  | 18 => ⟨S_, .f32⟩
  | 19 => ⟨S16x30x1024, .f32⟩
  | 20 => ⟨S16x2078x1024, .f32⟩
  | 21 => ⟨S16x2048x1024, .f32⟩
  | 22 => ⟨S1x1x1024, .f32⟩
  | 23 => ⟨S1024, .f32⟩
  | 24 => ⟨S1x1x1024, .f32⟩
  | 25 => ⟨S16x2048x1024, .f32⟩
  | 26 => ⟨S16x2048x1024, .f32⟩
  | 27 => ⟨S16x2048x1024, .f32⟩
  | 28 => ⟨S1x1x1024, .f32⟩
  | 29 => ⟨S1024, .f32⟩
  | 30 => ⟨S1x1x1024, .f32⟩
  | 31 => ⟨S16x2048x1024, .f32⟩
  | 32 => ⟨S16x2048x1024, .f32⟩
  | 33 => ⟨S16x2048x1024, .f32⟩
  | 34 => ⟨S16x2048x1024, .f32⟩
  | 35 => ⟨S1x1x1024, .f32⟩
  | 36 => ⟨S1024, .f32⟩
  | 37 => ⟨S1x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S1x1x1024, .f32⟩
  | 43 => ⟨S1024, .f32⟩
  | 44 => ⟨S1x1x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S1x1x1024, .f32⟩
  | 50 => ⟨S1024, .f32⟩
  | 51 => ⟨S1x1x1024, .f32⟩
  | 52 => ⟨S16x2048x1024, .f32⟩
  | 53 => ⟨S16x2048x1024, .f32⟩
  | 54 => ⟨S16x2048x1024, .f32⟩
  | 55 => ⟨S16x2048x1024, .f32⟩
  | 56 => ⟨S1x1x1024, .f32⟩
  | 57 => ⟨S1024, .f32⟩
  | 58 => ⟨S1x1x1024, .f32⟩
  | 59 => ⟨S16x2048x1024, .f32⟩
  | 60 => ⟨S16x2048x1024, .f32⟩
  | 61 => ⟨S16x2048x1024, .f32⟩
  | 62 => ⟨S16x2048x1024, .f32⟩
  | 63 => ⟨S1x1x1024, .f32⟩
  | 64 => ⟨S1024, .f32⟩
  | 65 => ⟨S1x1x1024, .f32⟩
  | 66 => ⟨S16x2048x1024, .f32⟩
  | 67 => ⟨S16x2048x1024, .f32⟩
  | 68 => ⟨S16x2048x1024, .f32⟩
  | 69 => ⟨S16x2048x1024, .f32⟩
  | 70 => ⟨S1x1x1024, .f32⟩
  | 71 => ⟨S1024, .f32⟩
  | 72 => ⟨S1x1x1024, .f32⟩
  | 73 => ⟨S16x2048x1024, .f32⟩
  | 74 => ⟨S16x2048x1024, .f32⟩
  | 75 => ⟨S16x2048x1024, .f32⟩
  | 76 => ⟨S16x2048x1024, .f32⟩
  | 77 => ⟨S1x1x1024, .f32⟩
  | 78 => ⟨S1024, .f32⟩
  | 79 => ⟨S1x1x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S1x1x1024, .f32⟩
  | 85 => ⟨S1024, .f32⟩
  | 86 => ⟨S1x1x1024, .f32⟩
  | 87 => ⟨S16x2048x1024, .f32⟩
  | 88 => ⟨S16x2048x1024, .f32⟩
  | 89 => ⟨S16x2048x1024, .f32⟩
  | 90 => ⟨S16x2048x1024, .f32⟩
  | 91 => ⟨S1x1x1024, .f32⟩
  | 92 => ⟨S1024, .f32⟩
  | 93 => ⟨S1x1x1024, .f32⟩
  | 94 => ⟨S16x2048x1024, .f32⟩
  | 95 => ⟨S16x2048x1024, .f32⟩
  | 96 => ⟨S16x2048x1024, .f32⟩
  | 97 => ⟨S16x2048x1024, .f32⟩
  | 98 => ⟨S1x1x1024, .f32⟩
  | 99 => ⟨S1024, .f32⟩
  | 100 => ⟨S1x1x1024, .f32⟩
  | 101 => ⟨S16x2048x1024, .f32⟩
  | 102 => ⟨S16x2048x1024, .f32⟩
  | 103 => ⟨S16x2048x1024, .f32⟩
  | 104 => ⟨S16x2048x1024, .f32⟩
  | 105 => ⟨S1x1x1024, .f32⟩
  | 106 => ⟨S1024, .f32⟩
  | 107 => ⟨S1x1x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S1x1x1024, .f32⟩
  | 113 => ⟨S1024, .f32⟩
  | 114 => ⟨S1x1x1024, .f32⟩
  | 115 => ⟨S16x2048x1024, .f32⟩
  | 116 => ⟨S16x2048x1024, .f32⟩
  | 117 => ⟨S16x2048x1024, .f32⟩
  | 118 => ⟨S16x2048x1024, .f32⟩
  | 119 => ⟨S1x1x1024, .f32⟩
  | 120 => ⟨S1024, .f32⟩
  | 121 => ⟨S1x1x1024, .f32⟩
  | 122 => ⟨S16x2048x1024, .f32⟩
  | 123 => ⟨S16x2048x1024, .f32⟩
  | 124 => ⟨S16x2048x1024, .f32⟩
  | 125 => ⟨S16x2048x1024, .f32⟩
  | 126 => ⟨S1x1x1024, .f32⟩
  | 127 => ⟨S1024, .f32⟩
  | _ => ⟨S16x2048x2048, .f32⟩

abbrev hbmTy0_1 (i : Nat) : BufTy := match i % 128 with
  | 0 => ⟨S1x1x1024, .f32⟩
  | 1 => ⟨S16x2048x1024, .f32⟩
  | 2 => ⟨S16x2048x1024, .f32⟩
  | 3 => ⟨S16x2048x1024, .f32⟩
  | 4 => ⟨S16x2048x1024, .f32⟩
  | 5 => ⟨S1x1x1024, .f32⟩
  | 6 => ⟨S1024, .f32⟩
  | 7 => ⟨S1x1x1024, .f32⟩
  | 8 => ⟨S16x2048x1024, .f32⟩
  | 9 => ⟨S16x2048x1024, .f32⟩
  | 10 => ⟨S16x2048x1024, .f32⟩
  | 11 => ⟨S16x2048x1024, .f32⟩
  | 12 => ⟨S1x1x1024, .f32⟩
  | 13 => ⟨S1024, .f32⟩
  | 14 => ⟨S1x1x1024, .f32⟩
  | 15 => ⟨S16x2048x1024, .f32⟩
  | 16 => ⟨S16x2048x1024, .f32⟩
  | 17 => ⟨S16x2048x1024, .f32⟩
  | 18 => ⟨S16x2048x1024, .f32⟩
  | 19 => ⟨S1x1x1024, .f32⟩
  | 20 => ⟨S1024, .f32⟩
  | 21 => ⟨S1x1x1024, .f32⟩
  | 22 => ⟨S16x2048x1024, .f32⟩
  | 23 => ⟨S16x2048x1024, .f32⟩
  | 24 => ⟨S16x2048x1024, .f32⟩
  | 25 => ⟨S16x2048x1024, .f32⟩
  | 26 => ⟨S1x1x1024, .f32⟩
  | 27 => ⟨S1024, .f32⟩
  | 28 => ⟨S1x1x1024, .f32⟩
  | 29 => ⟨S16x2048x1024, .f32⟩
  | 30 => ⟨S16x2048x1024, .f32⟩
  | 31 => ⟨S16x2048x1024, .f32⟩
  | 32 => ⟨S16x2048x1024, .f32⟩
  | 33 => ⟨S1x1x1024, .f32⟩
  | 34 => ⟨S1024, .f32⟩
  | 35 => ⟨S1x1x1024, .f32⟩
  | 36 => ⟨S16x2048x1024, .f32⟩
  | 37 => ⟨S16x2048x1024, .f32⟩
  | 38 => ⟨S16x2048x1024, .f32⟩
  | 39 => ⟨S16x2048x1024, .f32⟩
  | 40 => ⟨S1x1x1024, .f32⟩
  | 41 => ⟨S1024, .f32⟩
  | 42 => ⟨S1x1x1024, .f32⟩
  | 43 => ⟨S16x2048x1024, .f32⟩
  | 44 => ⟨S16x2048x1024, .f32⟩
  | 45 => ⟨S16x2048x1024, .f32⟩
  | 46 => ⟨S16x2048x1024, .f32⟩
  | 47 => ⟨S1x1x1024, .f32⟩
  | 48 => ⟨S1024, .f32⟩
  | 49 => ⟨S1x1x1024, .f32⟩
  | 50 => ⟨S16x2048x1024, .f32⟩
  | 51 => ⟨S16x2048x1024, .f32⟩
  | 52 => ⟨S16x2048x1024, .f32⟩
  | 53 => ⟨S16x2048x1024, .f32⟩
  | 54 => ⟨S1x1x1024, .f32⟩
  | 55 => ⟨S1024, .f32⟩
  | 56 => ⟨S1x1x1024, .f32⟩
  | 57 => ⟨S16x2048x1024, .f32⟩
  | 58 => ⟨S16x2048x1024, .f32⟩
  | 59 => ⟨S16x2048x1024, .f32⟩
  | 60 => ⟨S16x2048x1024, .f32⟩
  | 61 => ⟨S1x1x1024, .f32⟩
  | 62 => ⟨S1024, .f32⟩
  | 63 => ⟨S1x1x1024, .f32⟩
  | 64 => ⟨S16x2048x1024, .f32⟩
  | 65 => ⟨S16x2048x1024, .f32⟩
  | 66 => ⟨S16x2048x1024, .f32⟩
  | 67 => ⟨S16x2048x1024, .f32⟩
  | 68 => ⟨S1x1x1024, .f32⟩
  | 69 => ⟨S1024, .f32⟩
  | 70 => ⟨S1x1x1024, .f32⟩
  | 71 => ⟨S16x2048x1024, .f32⟩
  | 72 => ⟨S16x2048x1024, .f32⟩
  | 73 => ⟨S16x2048x1024, .f32⟩
  | 74 => ⟨S16x2048x1024, .f32⟩
  | 75 => ⟨S1x1x1024, .f32⟩
  | 76 => ⟨S1024, .f32⟩
  | 77 => ⟨S1x1x1024, .f32⟩
  | 78 => ⟨S16x2048x1024, .f32⟩
  | 79 => ⟨S16x2048x1024, .f32⟩
  | 80 => ⟨S16x2048x1024, .f32⟩
  | 81 => ⟨S16x2048x1024, .f32⟩
  | 82 => ⟨S1x1x1024, .f32⟩
  | 83 => ⟨S1024, .f32⟩
  | 84 => ⟨S1x1x1024, .f32⟩
  | 85 => ⟨S16x2048x1024, .f32⟩
  | 86 => ⟨S16x2048x1024, .f32⟩
  | 87 => ⟨S16x2048x1024, .f32⟩
  | 88 => ⟨S16x2048x1024, .f32⟩
  | 89 => ⟨S1x1x1024, .f32⟩
  | 90 => ⟨S1024, .f32⟩
  | 91 => ⟨S1x1x1024, .f32⟩
  | 92 => ⟨S16x2048x1024, .f32⟩
  | 93 => ⟨S16x2048x1024, .f32⟩
  | 94 => ⟨S16x2048x1024, .f32⟩
  | 95 => ⟨S16x2048x1024, .f32⟩
  | 96 => ⟨S1x1x1024, .f32⟩
  | 97 => ⟨S1024, .f32⟩
  | 98 => ⟨S1x1x1024, .f32⟩
  | 99 => ⟨S16x2048x1024, .f32⟩
  | 100 => ⟨S16x2048x1024, .f32⟩
  | 101 => ⟨S16x2048x1024, .f32⟩
  | 102 => ⟨S16x2048x1024, .f32⟩
  | 103 => ⟨S1x1x1024, .f32⟩
  | 104 => ⟨S1024, .f32⟩
  | 105 => ⟨S1x1x1024, .f32⟩
  | 106 => ⟨S16x2048x1024, .f32⟩
  | 107 => ⟨S16x2048x1024, .f32⟩
  | 108 => ⟨S16x2048x1024, .f32⟩
  | 109 => ⟨S1024, .f32⟩
  | 110 => ⟨S1x1x1024, .f32⟩
  | 111 => ⟨S16x2048x1024, .f32⟩
  | 112 => ⟨S16x2048x1024, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S16x2048x1024, .f32⟩
  | 120 => ⟨S16x2048x1024, .f32⟩
  | 121 => ⟨S16x2048x1024, .f32⟩
  | 122 => ⟨S_, .f32⟩
  | 123 => ⟨S16x2048, .f32⟩
  | 124 => ⟨S16x2048x1, .f32⟩
  | 125 => ⟨S_, .f32⟩
  | 126 => ⟨S16x2048x1, .f32⟩
  | 127 => ⟨S16x2048x1, .f32⟩
  | _ => ⟨S16x2048x2048, .f32⟩

abbrev hbmTy0_2 (i : Nat) : BufTy := match i % 128 with
  | 0 => ⟨S_, .f32⟩
  | 1 => ⟨S16x2048x1, .f32⟩
  | 2 => ⟨S16x2048x1, .f32⟩
  | 3 => ⟨S16x2048x1, .f32⟩
  | 4 => ⟨S16x2048x1024, .f32⟩
  | 5 => ⟨S16x2048x1024, .f32⟩
  | 6 => ⟨S1024, .f32⟩
  | 7 => ⟨S1x1x1024, .f32⟩
  | 8 => ⟨S16x2048x1024, .f32⟩
  | 9 => ⟨S16x2048x1024, .f32⟩
  | 10 => ⟨S1024, .f32⟩
  | 11 => ⟨S1x1x1024, .f32⟩
  | 12 => ⟨S16x2048x1024, .f32⟩
  | 13 => ⟨S16x2048x1024, .f32⟩
  | 14 => ⟨S16x2048x1024, .f32⟩
  | 15 => ⟨S16x2048x1024, .f32⟩
  | 16 => ⟨S_, .f32⟩
  | 17 => ⟨S16x2048x1024, .f32⟩
  | 18 => ⟨S16x2048x1024, .f32⟩
  | 19 => ⟨S_, .f32⟩
  | 20 => ⟨S16x2048x1024, .f32⟩
  | 21 => ⟨S16x2048x1024, .f32⟩
  | 22 => ⟨S16x2048x1024, .f32⟩
  | 23 => ⟨S16x2048x2048, .f32⟩
  | 24 => ⟨S16x2048x2048, .f32⟩
  | 25 => ⟨S_, .f32⟩
  | 26 => ⟨S16x2048x2048, .f32⟩
  | 27 => ⟨S16x2048x2048, .f32⟩
  | 28 => ⟨S_, .f32⟩
  | 29 => ⟨S16x2048x2048, .f32⟩
  | 30 => ⟨S16x2048x2048, .f32⟩
  | 31 => ⟨S1024x2048, .f32⟩
  | 32 => ⟨S16x2048x2048, .f32⟩
  | 33 => ⟨S16x2048x2048, .f32⟩
  | 34 => ⟨S16x2048x2048, .bf16⟩
  | 35 => ⟨S16x30x1024, .f32⟩
  | _ => ⟨S16x2048x2048, .f32⟩

abbrev hbmTy (i : Nat) : BufTy := match i / 128 with
  | 0 => hbmTy0_0 i
  | 1 => hbmTy0_1 i
  | 2 => hbmTy0_2 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_cst_6 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_cst_7 : Ref sig .tc := ⟨.hbm, 281, rfl⟩
abbrev main_v258 : Ref sig .tc := ⟨.hbm, 282, rfl⟩
abbrev main_v259 : Ref sig .tc := ⟨.hbm, 283, rfl⟩
abbrev main_cst_8 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩

abbrev nD : Nat := 1
abbrev τ : Topo := Topo.v7x

variable {F : FTy → Type} [FloatOps F]
-- ==== Proof.KBody.lean ====
/-
  What one grid point of the kernel stores, as vector operations on its input blocks: the eight query blocks are one
  expression in the block number.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Moba

open Cert.KernelIdeal Cert.KernelIdeal.Gen Idealize.ShloMosaic

variable {F : FTy → Type} [FloatOps F] [Named F]

/-! ## The expression -/

theorem rows_inb (j : Fin 8) : ∀ a, (![0, 256 * j.val, 0] : Fin 3 → ℕ) a + S1x256x128.size a ≤ S1x2048x128.size a := by
  intro a; fin_cases a <;> simp [S1x256x128, S1x2048x128]; omega

/-- The rows of block `j`. -/
def blockRows (x : Vec F S1x2048x128 .f32) (j : Fin 8) : Vec F S1x256x128 .f32 :=
  View.ld x (Rect.unit ![0, 256 * j.val, 0] S1x256x128.size (rows_inb j))

theorem half_inb (n : Fin 8) (p : Fin 2) :
    ∀ a, (![0, 256 * n.val + 128 * p.val, 0] : Fin 3 → ℕ) a + S1x128x128.size a ≤ S1x2048x128.size a := by
  intro a; fin_cases a <;> simp [S1x128x128, S1x2048x128]; omega

/-- The rows of page `p` of block `n`. -/
def pageRows (x : Vec F S1x2048x128 .f32) (n : Fin 8) (p : Fin 2) : Vec F S1x128x128 .f32 :=
  View.ld x (Rect.unit ![0, 256 * n.val + 128 * p.val, 0] S1x128x128.size (half_inb n p))

/-- A running sum of page means, one page further. -/
def addPage (acc : FVec F S1x128 .f32) (x : Vec F S1x128x128 .f32) : FVec F S1x128 .f32 :=
  addf acc (mulf (shapeCast S1x128 (multiReduction .add [0] S128 (shapeCast S128x128 x shapeCasts_S1x128x128_S128x128) 0x00000000#32
    reduces_S128x128_S128 (.inl rfl) rfl) shapeCasts_S128_S1x128) (broadcast S1x128 (Scalar.ofBits .f32 0x3C000000#32)))

/-- The mean key of block `n`. -/
def meanKey (x : Vec F S1x2048x128 .f32) (n : Fin 8) : FVec F S1x128 .f32 :=
  mulf (addPage (addPage (broadcast S1x128 (Scalar.ofBits .f32 0x00000000#32)) (pageRows x n 0)) (pageRows x n 1))
    (broadcast S1x128 (Scalar.ofBits .f32 0x3F000000#32))

/-- The number of each query's own block, under every candidate. -/
def ownIota : IVec S8x2048 32 :=
  select
    (andi
      (cmpi .ne
        (subi (extui 32 (cmpi .sgt (iota .tc S8x2048 32 [1] iota_S8x2048_d1_w32) (broadcast S8x2048 0#32)) (by decide))
          (extui 32 (cmpi .slt (iota .tc S8x2048 32 [1] iota_S8x2048_d1_w32) (broadcast S8x2048 0#32)) (by decide)))
        (broadcast S8x2048 1#32))
      (cmpi .ne (remsi (iota .tc S8x2048 32 [1] iota_S8x2048_d1_w32) (broadcast S8x2048 256#32)) (broadcast S8x2048 0#32)))
    (subi (divsi (iota .tc S8x2048 32 [1] iota_S8x2048_d1_w32) (broadcast S8x2048 256#32)) (broadcast S8x2048 1#32))
    (divsi (iota .tc S8x2048 32 [1] iota_S8x2048_d1_w32) (broadcast S8x2048 256#32))

/-- Which candidates are fully past. -/
def pastMask : IVec S8x2048 1 := cmpi .slt (iota .tc S8x2048 32 [0] iota_S8x2048_d0_w32) ownIota

theorem row_inb (k : Fin 8) : S8x2048.Slices ![k.val, 0] S1x2048 := by
  revert k; decide

/-- Count candidate `k` against every candidate that it comes before. -/
def countOne (scm acc : FVec F S8x2048 .f32) (k : Fin 8) : FVec F S8x2048 .f32 :=
  addf acc (select
    (ori (cmpf .ogt (broadcastTo S8x2048 (extractStridedSlice S1x2048 ![k.val, 0] scm (row_inb k)) broadcasts_S1x2048_S8x2048) scm)
      (andi (cmpf .oeq (broadcastTo S8x2048 (extractStridedSlice S1x2048 ![k.val, 0] scm (row_inb k)) broadcasts_S1x2048_S8x2048) scm)
        (cmpi .sgt (iota .tc S8x2048 32 [0] iota_S8x2048_d0_w32) (broadcast S8x2048 (BitVec.ofNat 32 k.val)))))
    (broadcast S8x2048 (Scalar.ofBits .f32 0x3F800000#32)) (broadcast S8x2048 (Scalar.ofBits .f32 0x00000000#32)))

theorem whole_inb : ∀ a, (![0, 0, 0] : Fin 3 → ℕ) a + S1x2048x128.size a ≤ S1x2048x128.size a := by decide

/-- The candidates' scores, the ones not fully past at minus infinity. -/
def maskedScores (x1 x2 : Vec F S1x2048x128 .f32) : FVec F S8x2048 .f32 :=
  select pastMask
    (matmul dot_S8x128_S2048x128_S8x2048_1_1_0_0_n_n none
      (extf .f32 (truncf .bf16 (concatenate S8x128 0 [⟨S1x128, meanKey x2 0⟩, ⟨S1x128, meanKey x2 1⟩, ⟨S1x128, meanKey x2 2⟩,
        ⟨S1x128, meanKey x2 3⟩, ⟨S1x128, meanKey x2 4⟩, ⟨S1x128, meanKey x2 5⟩, ⟨S1x128, meanKey x2 6⟩, ⟨S1x128, meanKey x2 7⟩]
        concatenates_S1x128_S1x128_S1x128_S1x128_S1x128_S1x128_S1x128_S1x128_S8x128_d0) bitsLt_bf16_f32) bitsLt_bf16_f32)
      (extf .f32 (truncf .bf16 (shapeCast S2048x128 (View.ld x1 (Rect.unit ![0, 0, 0] S1x2048x128.size whole_inb)) shapeCasts_S1x2048x128_S2048x128) bitsLt_bf16_f32) bitsLt_bf16_f32)
      (constant S8x2048 .f32 0x00000000#32))
    (broadcast S8x2048 (Scalar.ofBits .f32 0xFF800000#32))

/-- What the choice of blocks adds to a logit: nothing at a chosen block, the mask at the others. -/
def choice (scm : FVec F S8x2048 .f32) : FVec F S8x2048 .f32 :=
  select
    (andi pastMask (cmpf .olt
      (([0, 1, 2, 3, 4, 5, 6] : List (Fin 8)).foldl (countOne scm) (broadcast S8x2048 (Scalar.ofBits .f32 0x00000000#32)))
      (broadcast S8x2048 (Scalar.ofBits .f32 0x40400000#32))))
    (broadcast S8x2048 (Scalar.ofBits .f32 0x00000000#32)) (broadcast S8x2048 (Named.named κ "mask" 0xF149F2CA#32))

theorem cols_inb (j : Fin 8) : S8x2048.Slices ![0, 256 * j.val] S8x256 := by
  revert j; decide

/-- The choice of query block `j`, read at candidate `n`. -/
def choiceRow (ch : FVec F S8x2048 .f32) (j n : Fin 8) : Vec F S1x1x256 .f32 := fun y =>
  shapeCast S1x8x256 (extractStridedSlice S8x256 ![0, 256 * j.val] ch (cols_inb j)) shapeCasts_S8x256_S1x8x256
    (ix3 0 n (y 2))

/-- What is added to the scaled products of query block `j` and key block `n`. -/
def added (own adj : FVec F S256x256 .f32) (far : F .f32) (ch : FVec F S8x2048 .f32) (j n : Fin 8) : FVec F S256x256 .f32 :=
  if n = j then own
  else if n.val + 1 = j.val then
    addf adj (broadcastTo S256x256 (shapeCast S1x256 (choiceRow ch j n) shapeCasts_S1x1x256_S1x256) broadcasts_S1x256_S256x256)
  else
    broadcastTo S256x256 (addf (broadcast S1x256 far) (shapeCast S1x256 (choiceRow ch j n) shapeCasts_S1x1x256_S1x256))
      broadcasts_S1x256_S256x256

/-- The keys of block `n`. -/
def keyBlock (x : Vec F S1x2048x128 .f32) (n : Fin 8) : FVec F S1x256x128 .bf16 :=
  shapeCast S1x256x128 (truncf .bf16 (shapeCast S256x128 (blockRows x n) shapeCasts_S1x256x128_S256x128) bitsLt_bf16_f32)
    shapeCasts_S256x128_S1x256x128

/-- The logits of query block `j` at key block `n`, keys by queries, times `log2 e`. -/
def logit (x1 x2 : Vec F S1x2048x128 .f32) (add : FVec F S256x256 .f32) (j n : Fin 8) : FVec F S256x256 .f32 :=
  addf (mulf (matmul dot_S256x128_S256x128_S256x256_1_1_0_0_n_n none
      (shapeCast S256x128 (keyBlock x2 n) shapeCasts_S1x256x128_S256x128)
      (truncf .bf16 (shapeCast S256x128 (blockRows x1 j) shapeCasts_S1x256x128_S256x128) bitsLt_bf16_f32)
      (constant S256x256 .f32 0x00000000#32)) (broadcast S256x256 (Named.named κ "c2" 0x3E0293EE#32))) add

/-- The largest logit of each query. -/
def peak1 (s : FVec F S256x256 .f32) : FVec F S1x256 .f32 :=
  shapeCast S1x256 (multiReduction .maximumf [0] S256 s 0xFF800000#32 reduces_S256x256_S256 (.inl rfl) rfl) shapeCasts_S256_S1x256

/-- The largest logit of each query over its own block and the blocks `L`. -/
def peak (s : Fin 8 → FVec F S256x256 .f32) (j : Fin 8) (L : List (Fin 8)) : FVec F S1x256 .f32 :=
  L.foldl (fun m n => maximumf m (peak1 (s n))) (peak1 (s j))

/-- The weights of one block of keys. -/
def weight (m : FVec F S1x256 .f32) (s : FVec F S256x256 .f32) : FVec F S256x256 .f32 :=
  exp2 (subf (shapeCast S256x256 (shapeCast S1x256x256 s shapeCasts_S256x256_S1x256x256) shapeCasts_S1x256x256_S256x256)
    (broadcastTo S256x256 m broadcasts_S1x256_S256x256))

/-- The sum of the weights of the blocks `L`. -/
def total (m : FVec F S1x256 .f32) (s : Fin 8 → FVec F S256x256 .f32) (L : List (Fin 8)) : FVec F S1x256 .f32 :=
  L.foldl (fun l n => addf l (shapeCast S1x256 (multiReduction .add [0] S256 (weight m (s n)) 0x00000000#32
    reduces_S256x256_S256 (.inl rfl) rfl) shapeCasts_S256_S1x256)) (broadcast S1x256 (Scalar.ofBits .f32 0x00000000#32))

/-- The weighted sum of the values of the blocks `L`. -/
def gather (m : FVec F S1x256 .f32) (s : Fin 8 → FVec F S256x256 .f32) (x3 : Vec F S1x2048x128 .f32) (L : List (Fin 8)) : FVec F S128x256 .f32 :=
  L.foldl (fun a n => addf a (matmul dot_S128x256_S256x256_S128x256_1_0_0_1_n_n none
    (shapeCast S128x256 (k0_pay4 (blockRows x3 n)) shapeCasts_S1x128x256_S128x256)
    (truncf .bf16 (weight m (s n)) bitsLt_bf16_f32) (constant S128x256 .f32 0x00000000#32)))
    (broadcast S128x256 (Scalar.ofBits .f32 0x00000000#32))

/-- The blocks before `j`, as they are visited. -/
def earlier : Fin 8 → List (Fin 8) :=
  ![[], [0], [1, 0], [2, 0, 1], [3, 0, 1, 2], [4, 0, 1, 2, 3], [5, 0, 1, 2, 3, 4], [6, 0, 1, 2, 3, 4, 5]]

/-- The gated attention of one query block. -/
def gated (ga : Vec F S1x256x128 .f32) (acc : FVec F S128x256 .f32) (l : FVec F S1x256 .f32) : FVec F S1x256x128 .bf16 :=
  shapeCast S1x256x128 (truncf .bf16 (mulf
    (divf (broadcast S256x128 (Scalar.ofBits .f32 0x3F800000#32)) (addf (broadcast S256x128 (Scalar.ofBits .f32 0x3F800000#32))
      (exp (subf (broadcast S256x128 (Scalar.ofBits .f32 0x00000000#32)) (shapeCast S256x128 ga shapeCasts_S1x256x128_S256x128)))))
    (transpose S256x128 [1, 0] (mulf acc (broadcastTo S128x256 (divf (broadcast S1x256 (Scalar.ofBits .f32 0x3F800000#32)) l)
      broadcasts_S1x256_S128x256)) transposes_S128x256_p1_0_S256x128)) bitsLt_bf16_f32) shapeCasts_S256x128_S1x256x128

theorem own_inb : ∀ a, (![0, 0, 0] : Fin 3 → ℕ) a + S1x256x256.size a ≤ S1x512x256.size a := by decide
theorem adj_inb : ∀ a, (![0, 256, 0] : Fin 3 → ℕ) a + S1x256x256.size a ≤ S1x512x256.size a := by decide

/-- All the logits of query block `j`. -/
def logits (far : F .f32) (x1 x2 : Vec F S1x2048x128 .f32) (x5 : Vec F S1x512x256 .f32) (j n : Fin 8) : FVec F S256x256 .f32 :=
  logit x1 x2 (added (k0_pay58 (View.ld x5 (Rect.unit ![0, 0, 0] S1x256x256.size own_inb)))
    (k0_pay59 (View.ld x5 (Rect.unit ![0, 256, 0] S1x256x256.size adj_inb))) far (choice (maskedScores x1 x2)) j n) j n

/-- What the kernel stores for query block `j`. -/
def piece (far : F .f32) (x1 x2 x3 x4 : Vec F S1x2048x128 .f32) (x5 : Vec F S1x512x256 .f32) (j : Fin 8) : FVec F S1x256x128 .bf16 :=
  gated (blockRows x4 j)
    (gather (peak (logits far x1 x2 x5 j) j (earlier j)) (logits far x1 x2 x5 j) x3 (j :: earlier j))
    (total (peak (logits far x1 x2 x5 j) j (earlier j)) (logits far x1 x2 x5 j) (j :: earlier j))

end Cert.Moba

end
-- ==== Proof.KRun.lean ====
/-
  The kernel's run at one grid point stores, for every query block, the expression of `KBody`.
-/
module

public import proofs.«01_k».proof.Proof.KBody

@[expose] public section

set_option maxRecDepth 1000000

noncomputable section

namespace Cert.Moba

open Cert.KernelIdeal Cert.KernelIdeal.Gen Cert.KernelIdeal.Gen.kernelRun0_A Idealize.ShloMosaic

variable {F : FTy → Type} [FloatOps F] [Named F]

/-- One row of a stored plane, loaded back. -/
theorem readCov_row {sig : RefSig} {κ : Kind} {sp : Space} (v : View sig κ sp S8x8x256 .f32) (j n : ℕ) (w : Vec F S1x8x256 .f32)
    (L : List (View.Piece (Elt F) S8x8x256 .f32)) (h) (h' : ∀ a, (![j, n, 0] : Fin 3 → ℕ) a + S1x1x256.size a ≤ S8x8x256.size a) :
    v.readCov (⟨Rect.unit (s := S8x8x256) ![j, 0, 0] S1x8x256.size h, w⟩ :: L) (Rect.unit (s := S8x8x256) ![j, n, 0] S1x1x256.size h').toLoadRect
      = fun y => w (ix3 0 ⟨n, Nat.lt_of_succ_le (h' 1)⟩ (y 2)) := by
  rw [View.readCov_eq_canon']
  funext y
  have e : (Rect.unit (s := S8x8x256) ![j, n, 0] S1x1x256.size h').toLoadRect.idx y
      = (Rect.unit (s := S8x8x256) ![j, 0, 0] S1x8x256.size h).emb (ix3 0 ⟨n, Nat.lt_of_succ_le (h' 1)⟩ (y 2)) := by
    funext a
    apply Fin.ext
    fin_cases a <;> simp [Rect.emb_apply, LoadRect.idx]
  rw [e]
  exact View.canon_cons_emb _ _ _ _

variable (c : Dev nD) (i : grid0.Coords) (arg2 : Memref sig .tc .smem S32x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x512x256 .f32) (harg7 : arg7.IsWhole) (arg8 : Memref sig .tc .vmem S1x2048x128 .bf16) (harg8 : arg8.IsWhole) (arg9 : Memref sig .tc .vmem S8x128x256 .bf16) (harg9 : arg9.IsWhole) (arg10 : Memref sig .tc .vmem S8x256x128 .bf16) (harg10 : arg10.IsWhole) (arg11 : Memref sig .tc .vmem S8x8x256 .f32) (harg11 : arg11.IsWhole) (arg12 : Memref sig .tc .vmem S8x256x256 .f32) (harg12 : arg12.IsWhole)
    (x0 : Vec F S32x16 .f32) (x1 : Vec F S1x2048x128 .f32) (x2 : Vec F S1x2048x128 .f32) (x3 : Vec F S1x2048x128 .f32) (x4 : Vec F S1x2048x128 .f32) (x5 : Vec F S1x512x256 .f32)

/-- The bias of the last distance bucket times `log2 e`. -/
def farBias : F .f32 := k0_pay2 (sl.r c i arg2 harg2 x0)

theorem scores_eq : sl.v279 c arg3 harg3 arg4 harg4 x1 x2
    = maskedScores (View.read (Elt F) arg3.view (harg3.unread x1)) (View.read (Elt F) arg4.view (harg4.unread x2)) := by
  rfl

theorem choice_all : sl.r_5 c arg3 harg3 arg4 harg4 x1 x2
    = choice (maskedScores (View.read (Elt F) arg3.view (harg3.unread x1)) (View.read (Elt F) arg4.view (harg4.unread x2))) := by
  rw [← scores_eq]
  rfl

theorem kb_read (n : ℕ) (h : ∀ a, (![n, 0, 0] : Fin 3 → ℕ) a + (![1, 256, 128] : Fin 3 → ℕ) a ≤ S8x256x128.size a) :
    arg10.view.readCov (sl.HS1_8 c arg4 harg4 x2) (Rect.unit (s := S8x256x128) ![n, 0, 0] ![1, 256, 128] h).toLoadRect
      = keyBlock (View.read (Elt F) arg4.view (harg4.unread x2)) ⟨n, Nat.lt_of_succ_le (h 0)⟩ := by
  have hn : n < 8 := Nat.lt_of_succ_le (h 0)
  unfold sl.HS1_8
  interval_cases n <;> (repeat rw [View.readCov_skip (h := by rfl)]) <;> rw [View.readCov_cons_toLoadRect] <;> rfl

theorem vt_read (n : ℕ) (h : ∀ a, (![n, 0, 0] : Fin 3 → ℕ) a + (![1, 128, 256] : Fin 3 → ℕ) a ≤ S8x128x256.size a) :
    arg9.view.readCov (sl.HS0_8 c arg5 harg5 x3) (Rect.unit (s := S8x128x256) ![n, 0, 0] ![1, 128, 256] h).toLoadRect
      = k0_pay4 (blockRows (View.read (Elt F) arg5.view (harg5.unread x3)) ⟨n, Nat.lt_of_succ_le (h 0)⟩) := by
  have hn : n < 8 := Nat.lt_of_succ_le (h 0)
  unfold sl.HS0_8
  interval_cases n <;> (repeat rw [View.readCov_skip (h := by rfl)]) <;> rw [View.readCov_cons_toLoadRect] <;> rfl

theorem sel_read (j n : ℕ) (h : ∀ a, (![j, n, 0] : Fin 3 → ℕ) a + (![1, 1, 256] : Fin 3 → ℕ) a ≤ S8x8x256.size a) :
    arg11.view.readCov (sl.HS2_8 c arg3 harg3 arg4 harg4 x1 x2) (Rect.unit (s := S8x8x256) ![j, n, 0] ![1, 1, 256] h).toLoadRect
      = choiceRow (choice (maskedScores (View.read (Elt F) arg3.view (harg3.unread x1)) (View.read (Elt F) arg4.view (harg4.unread x2))))
        ⟨j, Nat.lt_of_succ_le (h 0)⟩ ⟨n, Nat.lt_of_succ_le (h 1)⟩ := by
  have hj : j < 8 := Nat.lt_of_succ_le (h 0)
  have hn : n < 8 := Nat.lt_of_succ_le (h 1)
  unfold sl.HS2_8 sl.r_6
  rw [← choice_all c]
  interval_cases j <;> interval_cases n <;> (repeat rw [View.readCov_skip (h := by rfl)]) <;> refine (readCov_row _ _ _ _ _ _ _).trans ?_ <;> rfl

set_option maxHeartbeats 4000000 in
theorem run_pieces :
    (kernelRun0_A c i arg2 harg2 arg3 harg3 arg4 harg4 arg5 harg5 arg6 harg6 arg7 harg7 arg8 harg8 arg9 harg9 arg10 harg10 arg11 harg11 arg12 harg12 x0 x1 x2 x3 x4 x5).1
      = ([7, 6, 5, 4, 3, 2, 1, 0] : List (Fin 8)).map fun j =>
        ⟨Rect.unit ![0, 256 * j.val, 0] S1x256x128.size (rows_inb j), piece (farBias c i arg2 harg2 x0)
          (View.read (Elt F) arg3.view (harg3.unread x1)) (View.read (Elt F) arg4.view (harg4.unread x2))
          (View.read (Elt F) arg5.view (harg5.unread x3)) (View.read (Elt F) arg6.view (harg6.unread x4))
          (View.read (Elt F) arg7.view (harg7.unread x5)) j⟩ := by
  unfold kernelRun0_A
  dsimp only [List.map]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals refine congrArg (Sigma.mk _) ?_
  all_goals
    simp (disch := decide) only [
      sl.HS3_1, sl.HS3_10, sl.HS3_15, sl.HS3_21, sl.HS3_28, sl.HS3_3, sl.HS3_36, sl.HS3_6, sl.cst_22, sl.cst_180, sl.cst_296, sl.r_1, sl.r_7, sl.r_8,
      sl.r_9, sl.r_10, sl.r_11, sl.r_12, sl.r_13, sl.r_14, sl.r_15, sl.r_16, sl.r_17, sl.r_18, sl.r_19, sl.r_20, sl.r_21, sl.r_22, sl.r_23, sl.r_24,
      sl.r_25, sl.r_26, sl.r_27, sl.r_28, sl.r_29, sl.r_30, sl.r_31, sl.r_32, sl.r_33, sl.r_34, sl.r_35, sl.r_36, sl.r_37, sl.r_38, sl.r_39, sl.r_40,
      sl.r_41, sl.r_42, sl.r_43, sl.r_44, sl.r_45, sl.r_46, sl.r_47, sl.r_48, sl.r_49, sl.r_50, sl.r_51, sl.r_52, sl.r_53, sl.r_54, sl.r_55, sl.r_56,
      sl.r_57, sl.r_58, sl.r_59, sl.r_60, sl.r_61, sl.v426, sl.v439, sl.v447, sl.v474, sl.v485, sl.v497, sl.v498, sl.v499, sl.v500, sl.v501, sl.v502,
      sl.v503, sl.v504, sl.v505, sl.v506, sl.v507, sl.v508, sl.v509, sl.v510, sl.v511, sl.v512, sl.v513, sl.v514, sl.v515, sl.v516, sl.v517, sl.v519,
      sl.v520, sl.v521, sl.v522, sl.v523, sl.v524, sl.v525, sl.v526, sl.v527, sl.v528, sl.v529, sl.v530, sl.v551, sl.v562, sl.v578, sl.v597, sl.v598,
      sl.v599, sl.v600, sl.v601, sl.v602, sl.v603, sl.v604, sl.v605, sl.v606, sl.v607, sl.v608, sl.v609, sl.v610, sl.v611, sl.v613, sl.v614, sl.v615,
      sl.v616, sl.v617, sl.v620, sl.v621, sl.v622, sl.v623, sl.v624, sl.v626, sl.v627, sl.v628, sl.v629, sl.v630, sl.v633, sl.v634, sl.v635, sl.v658,
      sl.v669, sl.v685, sl.v702, sl.v721, sl.v729, sl.v734, sl.v739, sl.v740, sl.v741, sl.v744, sl.v745, sl.v746, sl.v747, sl.v748, sl.v749, sl.v750,
      sl.v751, sl.v752, sl.v753, sl.v754, sl.v757, sl.v758, sl.v759, sl.v760, sl.v761, sl.v763, sl.v764, sl.v765, sl.v766, sl.v767, sl.v770, sl.v771,
      sl.v772, sl.v774, sl.v775, sl.v776, sl.v777, sl.v795, sl.v806, sl.v822, sl.v839, sl.v856, sl.v875, sl.v878, sl.v879, sl.v880, sl.v881, sl.v882,
      sl.v883, sl.v884, sl.v885, sl.v886, sl.v887, sl.v888, sl.v889, sl.v890, sl.v891, sl.v892, sl.v893, sl.v894, sl.v895, sl.v896, sl.v897, sl.v898,
      sl.v899, sl.v900, sl.v901, sl.v902, sl.v904, sl.v905, sl.v906, sl.v907, sl.v908, sl.v911, sl.v912, sl.v913, sl.v914, sl.v915, sl.v917, sl.v918,
      sl.v919, sl.v920, sl.v921, sl.v924, sl.v925, sl.v926, sl.v927, sl.v928, sl.v930, sl.v931, sl.v932, sl.v933, sl.v934, sl.v937, sl.v938, sl.v939,
      sl.v941, sl.v942, sl.v943, sl.v944, sl.v946, sl.v947, sl.v948, sl.v949, sl.v950, sl.v951, sl.v953, sl.v962, sl.v973, sl.v989, sl.v1006, sl.v1023,
      sl.v1040, sl.v1054, sl.v1055, sl.v1056, sl.v1059, sl.v1060, sl.v1061, sl.v1062, sl.v1063, sl.v1064, sl.v1065, sl.v1066, sl.v1067, sl.v1068, sl.v1069,
      sl.v1070, sl.v1071, sl.v1072, sl.v1073, sl.v1075, sl.v1076, sl.v1077, sl.v1078, sl.v1079, sl.v1082, sl.v1083, sl.v1084, sl.v1085, sl.v1086, sl.v1088,
      sl.v1089, sl.v1090, sl.v1091, sl.v1092, sl.v1095, sl.v1096, sl.v1097, sl.v1098, sl.v1099, sl.v1101, sl.v1102, sl.v1103, sl.v1104, sl.v1105, sl.v1108,
      sl.v1109, sl.v1110, sl.v1111, sl.v1112, sl.v1114, sl.v1115, sl.v1116, sl.v1117, sl.v1118, sl.v1121, sl.v1122, sl.v1123, sl.v1124, sl.v1125, sl.v1159,
      sl.v1170, sl.v1186, sl.v1203, sl.v1220, sl.v1237, sl.v1254, sl.v1267, sl.v1268, sl.v1269, sl.v1270, sl.v1273, sl.v1274, sl.v1275, sl.v1276, sl.v1277,
      sl.v1278, sl.v1279, sl.v1280, sl.v1281, sl.v1282, sl.v1283, sl.v1284, sl.v1285, sl.v1286, sl.v1287, sl.v1289, sl.v1290, sl.v1291, sl.v1292, sl.v1293,
      sl.v1296, sl.v1297, sl.v1298, sl.v1299, sl.v1300, sl.v1302, sl.v1303, sl.v1304, sl.v1305, sl.v1306, sl.v1309, sl.v1310, sl.v1311, sl.v1312, sl.v1313,
      sl.v1315, sl.v1316, sl.v1317, sl.v1318, sl.v1319, sl.v1322, sl.v1323, sl.v1324, sl.v1325, sl.v1326, sl.v1328, sl.v1329, sl.v1330, sl.v1331, sl.v1332,
      sl.v1335, sl.v1336, sl.v1337, sl.v1338, sl.v1339, sl.v1341, sl.v1342, sl.v1343, sl.v1344, sl.v1345, sl.v1348, sl.v1349, sl.v1350, sl.v1351, sl.v1352,
      sl.v1354, sl.v1355, sl.v1356, sl.v1357, sl.v1358, sl.v1361, sl.v1362, sl.v1363, sl.v1365, sl.v1366, sl.v1367, sl.v1368, sl.v1370, sl.v1372, sl.v1373,
      sl.v1375, sl.v1386, sl.v1397, sl.v1413, sl.v1430, sl.v1447, sl.v1464, sl.v1481, sl.v1498, sl.v1511, sl.v1512, sl.v1513, sl.v1514, sl.v1517, sl.v1518,
      sl.v1519, sl.v1520, sl.v1521, sl.v1522, sl.v1523, sl.v1524, sl.v1525, sl.v1526, sl.v1527, sl.v1528, sl.v1529, sl.v1530, sl.v1531, sl.v1533, sl.v1534,
      sl.v1535, sl.v1536, sl.v1537, sl.v1540, sl.v1541, sl.v1542, sl.v1543, sl.v1544, sl.v1546, sl.v1547, sl.v1548, sl.v1549, sl.v1550, sl.v1553, sl.v1554,
      sl.v1555, sl.v1556, sl.v1557, sl.v1559, sl.v1560, sl.v1561, sl.v1562, sl.v1563, sl.v1566, sl.v1567, sl.v1568, sl.v1569, sl.v1570, sl.v1572, sl.v1573,
      sl.v1574, sl.v1575, sl.v1576, sl.v1579, sl.v1580, sl.v1581, sl.v1582, sl.v1583, sl.v1585, sl.v1586, sl.v1587, sl.v1588, sl.v1589, sl.v1592, sl.v1593,
      sl.v1594, sl.v1595, sl.v1596, sl.v1598, sl.v1599, sl.v1600, sl.v1601, sl.v1602, sl.v1605, sl.v1606, sl.v1607, sl.v1608, sl.v1609, sl.v1611, sl.v1612,
      sl.v1613, sl.v1614, sl.v1615, sl.v1618, sl.v1619, sl.v1620,
      kb_read, vt_read, sel_read,
      ↓View.readCov_skip, ↓View.readCov_cons_toLoadRect]
    rfl

end Cert.Moba
end
-- ==== Proof.Attn.lean ====
/-
  The equation of the attention over the extended reals: weights taken as powers of two of the logits scaled by 1/log 2,
  over the attended keys only, normalised after the product with the values, against the softmax (in its log form) over
  all keys with the others masked by minus infinity. No finiteness is assumed of the logits or of the values.
-/
module

public import Idealize.ShloMosaic.PureOps.Ideal
public import Mathlib.Data.EReal.Inv
public import Mathlib.Analysis.SpecialFunctions.Pow.Real
public import Mathlib.Analysis.SpecialFunctions.Exp

@[expose] public section

noncomputable section

namespace Cert.Moba

open Idealize.ShloMosaic

/-- `1 / log 2`. -/
def log2e : ℝ := (Real.log 2)⁻¹

theorem log2e_pos : 0 < log2e := inv_pos.mpr (Real.log_pos (by norm_num))

theorem add_mul_coe (x y : EReal) {c : ℝ} (hc : 0 ≤ c) : (x + y) * (c : EReal) = x * c + y * c :=
  EReal.right_distrib_of_nonneg_of_ne_top (EReal.coe_nonneg.mpr hc) (EReal.coe_ne_top c) x y

theorem sub_mul_coe (x y : EReal) {c : ℝ} (hc : 0 ≤ c) : (x - y) * (c : EReal) = x * c - y * c := by
  rw [sub_eq_add_neg, add_mul_coe _ _ hc, EReal.neg_mul, ← sub_eq_add_neg]

theorem sum_mul_coe {ι : Type} (s : Finset ι) (f : ι → EReal) {c : ℝ} (hc : 0 ≤ c) :
    (∑ i ∈ s, f i) * (c : EReal) = ∑ i ∈ s, f i * c := by
  classical
  induction s using Finset.induction_on with
  | empty => simp
  | insert a s ha ih => rw [Finset.sum_insert ha, Finset.sum_insert ha, add_mul_coe _ _ hc, ih]

/-- A power of two of a logit over `log 2` is its exponential. -/
theorem exp2_mul_log2e (x : EReal) : Ideal.exp2 (x * (log2e : EReal)) = Ideal.exp x := by
  induction x with
  | bot => rw [EReal.bot_mul_coe_of_pos log2e_pos]; rfl
  | top => rw [EReal.top_mul_coe_of_pos log2e_pos]; rfl
  | coe r =>
    rw [← EReal.coe_mul]
    show ((Real.rpow 2 (r * log2e) : ℝ) : EReal) = ((Real.exp r : ℝ) : EReal)
    congr 1
    show (2 : ℝ) ^ (r * log2e) = Real.exp r
    rw [Real.rpow_def_of_pos (by norm_num)]
    congr 1
    have : Real.log 2 ≠ 0 := (Real.log_pos (by norm_num)).ne'
    unfold log2e
    field_simp

theorem sup_mul_log2e {ι : Type} (s : Finset ι) (x : ι → EReal) :
    s.sup (fun a => x a * (log2e : EReal)) = s.sup x * (log2e : EReal) := by
  classical
  induction s using Finset.induction_on with
  | empty => simp [EReal.bot_mul_coe_of_pos log2e_pos]
  | insert a s ha ih =>
    rw [Finset.sup_insert, Finset.sup_insert, ih]
    have hm : Monotone fun y : EReal => y * (log2e : EReal) := fun y z h =>
      mul_le_mul_of_nonneg_right h (EReal.coe_nonneg.mpr log2e_pos.le)
    exact (hm.map_sup _ _).symm

/-- An exponential of something at most zero is a real number in `[0, 1]`, zero only at minus infinity. -/
theorem exp_of_nonpos {y : EReal} (h : y ≤ 0) : ∃ r : ℝ, 0 ≤ r ∧ Ideal.exp y = (r : EReal) ∧ (r = 0 → y = ⊥) := by
  induction y with
  | bot => exact ⟨0, le_refl _, rfl, fun _ => rfl⟩
  | top => exact absurd h (by simp)
  | coe r => exact ⟨Real.exp r, (Real.exp_pos r).le, rfl, fun h => absurd h (Real.exp_pos r).ne'⟩

theorem sub_le_zero {x m : EReal} (h : x ≤ m) : x - m ≤ 0 := by
  induction m with
  | bot => rw [le_bot_iff.mp h]; exact bot_le
  | top => rw [EReal.sub_top]; exact bot_le
  | coe r =>
    induction x with
    | bot => exact bot_le
    | top => exact absurd h (by simp)
    | coe s =>
      rw [← EReal.coe_sub]
      exact_mod_cast sub_nonpos.mpr (by exact_mod_cast h)

/-- Dividing an exponential by a positive real is subtracting the logarithm in the exponent. -/
theorem exp_sub_log {y : EReal} (h : y ≤ 0) {l : ℝ} (hl : 0 < l) :
    Ideal.exp (y - Ideal.log (l : EReal)) = Ideal.exp y * ((1 / l : ℝ) : EReal) := by
  have hlog : Ideal.log (l : EReal) = ((Real.log l : ℝ) : EReal) := by
    show (if l ≤ 0 then (⊥ : EReal) else (Real.log l : EReal)) = _
    rw [if_neg (not_le.mpr hl)]
  rw [hlog]
  induction y with
  | bot => rw [EReal.bot_sub]; show (0 : EReal) = 0 * _; rw [zero_mul]
  | top => exact absurd h (by simp)
  | coe r =>
    rw [← EReal.coe_sub]
    show ((Real.exp (r - Real.log l) : ℝ) : EReal) = ((Real.exp r : ℝ) : EReal) * _
    rw [← EReal.coe_mul, Real.exp_sub, Real.exp_log hl, mul_one_div]

theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The normalised weighted sum, both ways of normalising: the log-form softmax inside the sum, or one reciprocal of the
    weights' sum after it. -/
theorem normalise {α : Type} [Fintype α] (x v : α → EReal) (M : EReal) (hM : ∀ a, x a ≤ M) :
    (∑ a, v a * Ideal.exp ((x a - M) - Ideal.log (∑ b, Ideal.exp (x b - M))))
      = (∑ a, v a * Ideal.exp (x a - M)) * Ideal.div 1 (∑ b, Ideal.exp (x b - M)) := by
  choose r hr0 hr hrb using fun a => exp_of_nonpos (sub_le_zero (hM a))
  have hs : (∑ b, Ideal.exp (x b - M)) = ((∑ b, r b : ℝ) : EReal) := by
    rw [coe_finset_sum]; exact Finset.sum_congr rfl fun b _ => hr b
  rw [hs]
  have hl0 : 0 ≤ ∑ b, r b := Finset.sum_nonneg fun b _ => hr0 b
  rcases hl0.eq_or_lt with h0 | hpos
  · have hz : ∀ a, r a = 0 := fun a =>
      (Finset.sum_eq_zero_iff_of_nonneg fun b _ => hr0 b).mp h0.symm a (Finset.mem_univ a)
    have hb : ∀ a, x a - M = ⊥ := fun a => hrb a (hz a)
    simp only [hb, EReal.bot_sub]
    show (∑ a, v a * 0) = (∑ a, v a * 0) * _
    simp
  · rw [Ideal.div_coe hpos.ne', one_mul, sum_mul_coe _ _ (by positivity)]
    refine Finset.sum_congr rfl fun a _ => ?_
    rw [exp_sub_log (sub_le_zero (hM a)) hpos, mul_assoc]

/-- The attention of one query in one lane: over the attended keys `S` with base-two weights and a reciprocal at the end,
    or over all keys, the others masked, by the softmax. -/
theorem attention_eq {α : Type} [Fintype α] (S : Finset α) (x y v : α → EReal)
    (hS : ∀ a, a ∉ S → x a = ⊥) (hy : ∀ a ∈ S, y a = x a * (log2e : EReal)) :
    (∑ a ∈ S, v a * Ideal.exp2 (y a - S.sup y)) * Ideal.div 1 (∑ a ∈ S, Ideal.exp2 (y a - S.sup y))
      = ∑ a, v a * Ideal.exp ((x a - Finset.univ.sup x) - Ideal.log (∑ b, Ideal.exp (x b - Finset.univ.sup x))) := by
  have hsup : S.sup y = Finset.univ.sup x * (log2e : EReal) := by
    rw [Finset.sup_congr rfl hy, sup_mul_log2e]
    congr 1
    refine le_antisymm (Finset.sup_mono (Finset.subset_univ S)) (Finset.sup_le fun a _ => ?_)
    by_cases ha : a ∈ S
    · exact Finset.le_sup ha
    · rw [hS a ha]; exact bot_le
  have hp : ∀ a ∈ S, Ideal.exp2 (y a - S.sup y) = Ideal.exp (x a - Finset.univ.sup x) := fun a ha => by
    rw [hy a ha, hsup, ← sub_mul_coe _ _ log2e_pos.le, exp2_mul_log2e]
  have hz : ∀ a, a ∉ S → Ideal.exp (x a - Finset.univ.sup x) = 0 := fun a ha => by
    rw [hS a ha, EReal.bot_sub]; rfl
  rw [normalise x v _ fun a => Finset.le_sup (Finset.mem_univ a)]
  congr 1
  · rw [Finset.sum_congr rfl fun a ha => by rw [hp a ha]]
    exact Finset.sum_subset (Finset.subset_univ S) fun a _ ha => by rw [hz a ha, mul_zero]
  · rw [Finset.sum_congr rfl hp]
    congr 1
    exact Finset.sum_subset (Finset.subset_univ S) fun a _ ha => hz a ha

end Cert.Moba

end
-- ==== Proof.Ranks.lean ====
/-
  The stable top-k by rank: an index is among the first `k` positions of a stable descending sort exactly when
  fewer than `k` entries come before it (a greater value, or an equal one at a smaller index).
-/
module

public import Idealize.ShloMosaic.Lib.SortFacts
public import Idealize.ShloMosaic.PureOps.Ideal
public import Mathlib.Data.Fintype.Card
public import Mathlib.Order.Fin.Basic

@[expose] public section

namespace Cert.Moba

open Idealize.ShloMosaic

/-- Entry `a` comes before entry `b` in the stable descending order of `f`. -/
def Beats {n : ℕ} (f : Fin n → EReal) (a b : Fin n) : Prop := f b < f a ∨ (f a = f b ∧ a < b)

noncomputable instance {n : ℕ} (f : Fin n → EReal) (a b : Fin n) : Decidable (Beats f a b) :=
  inferInstanceAs (Decidable (_ ∨ _))

theorem Beats.irrefl {n : ℕ} (f : Fin n → EReal) (a : Fin n) : ¬ Beats f a a := by
  rintro (h | ⟨-, h⟩)
  · exact lt_irrefl _ h
  · exact lt_irrefl _ h

theorem Beats.trans {n : ℕ} {f : Fin n → EReal} {a b c : Fin n} (h : Beats f a b) (h' : Beats f b c) : Beats f a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

theorem Beats.asymm {n : ℕ} {f : Fin n → EReal} {a b : Fin n} (h : Beats f a b) : ¬ Beats f b a :=
  fun h' => Beats.irrefl f a (h.trans h')

/-- Inserting an entry that stands at a smaller index than all of an ordered list keeps the list ordered. -/
theorem pairwise_insert {n : ℕ} (f : Fin n → EReal) (before : Fin n → Fin n → Bool)
    (hb : ∀ a b, before a b = true ↔ f b < f a) (a : Fin n) (l : List (Fin n)) (hlt : ∀ b ∈ l, a < b)
    (hl : l.Pairwise (Beats f)) : (insertBefore before a l).Pairwise (Beats f) := by
  induction l with
  | nil => exact List.pairwise_singleton _ _
  | cons b l ih =>
    rw [List.pairwise_cons] at hl
    unfold insertBefore
    split
    · rename_i h
      refine List.pairwise_cons.mpr ⟨fun c hc => ?_, ih (fun c hc => hlt c (List.mem_cons_of_mem _ hc)) hl.2⟩
      rcases List.mem_cons.mp ((perm_insertBefore before a l).mem_iff.mp hc) with rfl | hc'
      · exact Or.inl ((hb _ _).mp h)
      · exact hl.1 c hc'
    · rename_i h
      have hab : Beats f a b := by
        have h1 : ¬ f a < f b := fun hh => h ((hb _ _).mpr hh)
        rcases lt_or_eq_of_le (not_lt.mp h1) with h2 | h2
        · exact Or.inl h2
        · exact Or.inr ⟨h2.symm, hlt b List.mem_cons_self⟩
      refine List.pairwise_cons.mpr ⟨fun c hc => ?_, List.pairwise_cons.mpr hl⟩
      rcases List.mem_cons.mp hc with rfl | hc'
      · exact hab
      · exact hab.trans (hl.1 c hc')

theorem pairwise_sorted {n : ℕ} (f : Fin n → EReal) (before : Fin n → Fin n → Bool)
    (hb : ∀ a b, before a b = true ↔ f b < f a) (l : List (Fin n)) (hl : l.Pairwise (· < ·)) :
    (stableSort before l).Pairwise (Beats f) := by
  induction l with
  | nil => exact List.Pairwise.nil
  | cons a l ih =>
    rw [List.pairwise_cons] at hl
    unfold stableSort
    exact pairwise_insert f before hb a _
      (fun b hb' => hl.1 b ((perm_stableSort before l).mem_iff.mp hb')) (ih hl.2)

/-- Sorted positions are in the stable descending order. -/
theorem sortedFrom_beats {n : ℕ} (f : Fin n → EReal) (before : Fin n → Fin n → Bool)
    (hb : ∀ a b, before a b = true ↔ f b < f a) (i j : Fin n) (hij : i < j) :
    Beats f (sortedFrom before i) (sortedFrom before j) := by
  have hp : ∀ a b : Fin (sortPositions n before).length, a < b →
      Beats f ((sortPositions n before).get a) ((sortPositions n before).get b) :=
    List.pairwise_iff_get.mp (pairwise_sorted f before hb (List.finRange n) (List.pairwise_lt_finRange n))
  exact hp _ _ hij

/-- The number of entries that come before `a`. -/
noncomputable def rank {n : ℕ} (f : Fin n → EReal) (a : Fin n) : ℕ := (Finset.univ.filter fun m => Beats f m a).card

/-- The entry at sorted position `i` has exactly `i` entries before it. -/
theorem rank_sortedFrom {n : ℕ} (f : Fin n → EReal) (before : Fin n → Fin n → Bool)
    (hb : ∀ a b, before a b = true ↔ f b < f a) (i : Fin n) : rank f (sortedFrom before i) = i.val := by
  have hinj := sortedFrom_injective before
  have hsurj := sortedFrom_surjective before
  have hset : (Finset.univ.filter fun m => Beats f m (sortedFrom before i))
      = (Finset.univ.filter fun k : Fin n => k < i).map ⟨sortedFrom before, hinj⟩ := by
    ext m
    simp only [Finset.mem_filter, Finset.mem_univ, true_and, Finset.mem_map, Function.Embedding.coeFn_mk]
    constructor
    · intro h
      obtain ⟨k, rfl⟩ := hsurj m
      refine ⟨k, ?_, rfl⟩
      by_contra hk
      rcases lt_or_eq_of_le (not_lt.mp hk) with h2 | h2
      · exact (sortedFrom_beats f before hb i k h2).asymm h
      · exact Beats.irrefl f _ (h2 ▸ h)
    · rintro ⟨k, hk, rfl⟩
      exact sortedFrom_beats f before hb k i hk
  rw [rank, hset, Finset.card_map]
  have : (Finset.univ.filter fun k : Fin n => k < i) = Finset.Iio i := by ext; simp
  rw [this, Fin.card_Iio]

/-- An entry is at one of the first `k` sorted positions exactly when its rank is below `k`. -/
theorem exists_sortedFrom_iff {n : ℕ} (f : Fin n → EReal) (before : Fin n → Fin n → Bool)
    (hb : ∀ a b, before a b = true ↔ f b < f a) (k : ℕ) (a : Fin n) :
    (∃ i : Fin n, i.val < k ∧ sortedFrom before i = a) ↔ rank f a < k := by
  constructor
  · rintro ⟨i, hi, rfl⟩
    rwa [rank_sortedFrom f before hb]
  · intro h
    obtain ⟨i, rfl⟩ := sortedFrom_surjective before a
    exact ⟨i, by rwa [rank_sortedFrom f before hb] at h, rfl⟩

end Cert.Moba

end
-- ==== Proof.Spec.lean ====
/-
  The gated block attention of one head of one sequence, as a formula over the extended reals.
-/
module

public import proofs.«01_k».proof.Proof.Attn
public import proofs.«01_k».proof.Proof.Ranks

@[expose] public section

noncomputable section

namespace Cert.Moba

open Idealize.ShloMosaic

/-- Position `r` of block `n`, as a position of the sequence. -/
def row (n : Fin 8) (r : Fin 256) : Fin 2048 := ⟨256 * n.val + r.val, by omega⟩

/-- Position `r` of page `p` of block `n`, as a position of the sequence. -/
def pageRow (n : Fin 8) (p : Fin 2) (r : Fin 128) : Fin 2048 := ⟨256 * n.val + 128 * p.val + r.val, by omega⟩

/-- The factor on the products of queries and keys. -/
def scale : ℝ := 11863283 / 134217728

/-- The mean key of a block: the mean of its two pages' means. -/
def blockMean (K : Fin 2048 → Fin 128 → EReal) (n : Fin 8) (d : Fin 128) : EReal :=
  ((∑ r : Fin 128, K (pageRow n 0 r) d) * ((1 / 128 : ℝ) : EReal) + (∑ r : Fin 128, K (pageRow n 1 r) d) * ((1 / 128 : ℝ) : EReal))
    * ((1 / 2 : ℝ) : EReal)

/-- The score of a block as a candidate of query `t`: minus infinity where it is not fully past. -/
def score (Q K : Fin 2048 → Fin 128 → EReal) (t : Fin 2048) (m : Fin 7) : EReal :=
  if m.val < t.val / 256 then ∑ d : Fin 128, blockMean K m.castSucc d * Q t d else ⊥

/-- Block `n` is among the chosen ones of query `t`. -/
def Chosen (Q K : Fin 2048 → Fin 128 → EReal) (t : Fin 2048) (n : Fin 8) : Prop :=
  n.val < t.val / 256 ∧ ∃ m : Fin 7, m.castSucc = n ∧ rank (score Q K t) m < 3

/-- Query `t` attends to key `l` of block `n`. -/
def Attended (Q K : Fin 2048 → Fin 128 → EReal) (t : Fin 2048) (n : Fin 8) (l : Fin 256) : Prop :=
  if n.val = t.val / 256 then l.val ≤ t.val % 256 else Chosen Q K t n

/-- The position bias of query `t` and key `l` of block `n`. -/
def pairBias (B : Fin 512 → Fin 256 → EReal) (far : EReal) (t : Fin 2048) (n : Fin 8) (l : Fin 256) : EReal :=
  if n.val = t.val / 256 then B ⟨l.val, by omega⟩ ⟨t.val % 256, by omega⟩
  else if n.val + 1 = t.val / 256 then B ⟨256 + l.val, by omega⟩ ⟨t.val % 256, by omega⟩ else far

open Classical in
/-- The logit of query `t` at key `l` of block `n`. -/
def attnLogit (Q K : Fin 2048 → Fin 128 → EReal) (B : Fin 512 → Fin 256 → EReal) (far : EReal) (t : Fin 2048) (a : Fin 8 × Fin 256) : EReal :=
  if Attended Q K t a.1 a.2 then
    (∑ d : Fin 128, K (row a.1 a.2) d * Q t d) * (scale : EReal) + pairBias B far t a.1 a.2
  else ⊥

/-- The gated attention of query `t`. -/
def attnOut (Q K V G : Fin 2048 → Fin 128 → EReal) (B : Fin 512 → Fin 256 → EReal) (far : EReal) (t : Fin 2048) (d : Fin 128) : EReal :=
  Ideal.div 1 (1 + Ideal.exp (- G t d)) *
    ∑ a : Fin 8 × Fin 256, V (row a.1 a.2) d * Ideal.exp ((attnLogit Q K B far t a - Finset.univ.sup (attnLogit Q K B far t))
      - Ideal.log (∑ b : Fin 8 × Fin 256, Ideal.exp (attnLogit Q K B far t b - Finset.univ.sup (attnLogit Q K B far t))))

end Cert.Moba

end
-- ==== Proof.KPoint.lean ====
/-
  The kernel's expression for a query block, read at an index over the extended reals.
-/
module

public import proofs.«01_k».proof.Proof.KBody
public import proofs.«01_k».proof.Proof.Spec
public import Idealize.ShloMosaic.Lib.Pointwise

@[expose] public section

set_option maxRecDepth 100000

noncomputable section

namespace Cert.Moba

open Cert.KernelIdeal Cert.KernelIdeal.Gen Idealize.ShloMosaic

theorem blockRows_apply (x : Vec Ideal S1x2048x128 .f32) (j : Fin 8) (r : Fin 256) (d : Fin 128) :
    blockRows x j (ix3 0 r d) = x (ix3 0 (row j r) d) := by
  pointwise [blockRows]
  rfl

theorem weight_apply (m : FVec Ideal S1x256 .f32) (s : FVec Ideal S256x256 .f32) (l r : Fin 256) :
    weight m s (ix2 l r) = Ideal.exp2 (s (ix2 l r) - m (ix2 0 r)) := by
  pointwise [weight]
  rfl

theorem peak1_apply (s : FVec Ideal S256x256 .f32) (r : Fin 256) :
    peak1 s (ix2 0 r) = Finset.univ.sup fun l : Fin 256 => s (ix2 l r) := by
  pointwise [peak1]
  rw [show (Ideal.ofBits .f32 4286578688#32 : EReal) = ⊥ from by simp [Ideal.ofBits, Ideal.ieee]]
  rfl

theorem keyBlock_apply (x : Vec Ideal S1x2048x128 .f32) (n : Fin 8) (l : Fin 256) (d : Fin 128) :
    keyBlock x n (ix3 0 l d) = x (ix3 0 (row n l) d) := by
  pointwise [keyBlock]
  exact blockRows_apply x n l d

theorem logit_apply (x1 x2 : Vec Ideal S1x2048x128 .f32) (add : FVec Ideal S256x256 .f32) (j n : Fin 8) (l r : Fin 256) :
    logit x1 x2 add j n (ix2 l r)
      = (∑ d : Fin 128, x2 (ix3 0 (row n l) d) * x1 (ix3 0 (row j r) d)) * (Named.named κ "c2" 0x3E0293EE#32 : Ideal .f32)
        + add (ix2 l r) := by
  pointwise [logit]
  simp only [keyBlock_apply, blockRows_apply]

theorem total_apply (m : FVec Ideal S1x256 .f32) (s : Fin 8 → FVec Ideal S256x256 .f32) (L : List (Fin 8)) (r : Fin 256) :
    total m s L (ix2 0 r) = (L.map fun n => ∑ l : Fin 256, Ideal.exp2 (s n (ix2 l r) - m (ix2 0 r))).sum := by
  unfold total
  rw [show (L.map fun n => ∑ l : Fin 256, Ideal.exp2 (s n (ix2 l r) - m (ix2 0 r))).sum
    = (broadcast S1x256 (Scalar.ofBits .f32 0x00000000#32) : FVec Ideal S1x256 .f32) (ix2 0 r) + (L.map fun n => ∑ l : Fin 256, Ideal.exp2 (s n (ix2 l r) - m (ix2 0 r))).sum from by pointwise]
  generalize (broadcast S1x256 (Scalar.ofBits .f32 0x00000000#32) : FVec Ideal S1x256 .f32) = a
  induction L generalizing a with
  | nil => simp
  | cons n L ih =>
    rw [List.foldl_cons, ih, List.map_cons, List.sum_cons, ← add_assoc]
    congr 1
    pointwise
    simp only [weight_apply]

theorem gather_apply (m : FVec Ideal S1x256 .f32) (s : Fin 8 → FVec Ideal S256x256 .f32) (x3 : Vec Ideal S1x2048x128 .f32)
    (L : List (Fin 8)) (d : Fin 128) (r : Fin 256) :
    gather m s x3 L (ix2 d r)
      = (L.map fun n => ∑ l : Fin 256, x3 (ix3 0 (row n l) d) * Ideal.exp2 (s n (ix2 l r) - m (ix2 0 r))).sum := by
  unfold gather
  rw [show (L.map fun n => ∑ l : Fin 256, x3 (ix3 0 (row n l) d) * Ideal.exp2 (s n (ix2 l r) - m (ix2 0 r))).sum
    = (broadcast S128x256 (Scalar.ofBits .f32 0x00000000#32) : FVec Ideal S128x256 .f32) (ix2 d r) + (L.map fun n => ∑ l : Fin 256, x3 (ix3 0 (row n l) d) * Ideal.exp2 (s n (ix2 l r) - m (ix2 0 r))).sum from by pointwise]
  generalize (broadcast S128x256 (Scalar.ofBits .f32 0x00000000#32) : FVec Ideal S128x256 .f32) = a
  induction L generalizing a with
  | nil => simp
  | cons n L ih =>
    rw [List.foldl_cons, ih, List.map_cons, List.sum_cons, ← add_assoc]
    congr 1
    pointwise [k0_pay4]
    simp only [weight_apply, blockRows_apply]

theorem peak_apply (s : Fin 8 → FVec Ideal S256x256 .f32) (j : Fin 8) (L : List (Fin 8)) (r : Fin 256) :
    peak s j L (ix2 0 r) = L.foldl (fun m n => max m (Finset.univ.sup fun l : Fin 256 => s n (ix2 l r)))
      (Finset.univ.sup fun l : Fin 256 => s j (ix2 l r)) := by
  unfold peak
  rw [← peak1_apply]
  generalize peak1 (s j) = a
  induction L generalizing a with
  | nil => rfl
  | cons n L ih =>
    rw [List.foldl_cons, ih, List.foldl_cons]
    congr 1
    pointwise
    rw [peak1_apply]

theorem gated_apply (ga : Vec Ideal S1x256x128 .f32) (acc : FVec Ideal S128x256 .f32) (l : FVec Ideal S1x256 .f32) (r : Fin 256) (d : Fin 128) :
    gated ga acc l (ix3 0 r d)
      = Ideal.div 1 (1 + Ideal.exp (- ga (ix3 0 r d))) * (acc (ix2 d r) * Ideal.div 1 (l (ix2 0 r))) := by
  pointwise [gated]
  rw [zero_sub]

theorem own_apply (x : Vec Ideal S1x512x256 .f32) (l r : Fin 256) :
    k0_pay58 (View.ld x (Rect.unit ![0, 0, 0] S1x256x256.size own_inb)) (ix2 l r)
      = if l ≤ r then x (ix3 0 ⟨l.val, by omega⟩ r) * (Named.named κ "log2e" 0x3FB8AA3B#32 : Ideal .f32) else (Named.named κ "mask" 0xF149F2CA#32 : Ideal .f32) := by
  pointwise [k0_pay58]
  rw [WordCmp.cmpi_sle_ofNat (by omega) (by omega)]
  unfold Scalar.select
  by_cases h : l ≤ r
  · exact (if_pos ((WordCmp.ofBool_decide_eq_one_iff _).mpr h)).trans (if_pos h).symm
  · exact (if_neg fun e => h ((WordCmp.ofBool_decide_eq_one_iff _).mp e)).trans (if_neg h).symm

theorem adj_apply (x : Vec Ideal S1x512x256 .f32) (l r : Fin 256) :
    k0_pay59 (View.ld x (Rect.unit ![0, 256, 0] S1x256x256.size adj_inb)) (ix2 l r)
      = x (ix3 0 ⟨256 + l.val, by omega⟩ r) * (Named.named κ "log2e" 0x3FB8AA3B#32 : Ideal .f32) := by
  pointwise [k0_pay59]

theorem choiceRow_apply (ch : FVec Ideal S8x2048 .f32) (j n : Fin 8) (r : Fin 256) :
    choiceRow ch j n (ix3 0 0 r) = ch (ix2 n (row j r)) := by
  pointwise [choiceRow]
  rfl

theorem added_apply (own adj : FVec Ideal S256x256 .f32) (far : Ideal .f32) (ch : FVec Ideal S8x2048 .f32) (j n : Fin 8) (l r : Fin 256) :
    added own adj far ch j n (ix2 l r) = if n = j then own (ix2 l r) else if n.val + 1 = j.val then adj (ix2 l r) + ch (ix2 n (row j r))
      else far + ch (ix2 n (row j r)) := by
  unfold added
  split_ifs
  · rfl
  · pointwise
    rw [choiceRow_apply]
  · pointwise
    rw [choiceRow_apply]

theorem ownWord (v : Fin 2048) :
    Scalar.select (IntOp.andi
      (IntOp.cmpi .ne (IntOp.subi (BitVec.setWidth 32 (IntOp.cmpi .sgt (BitVec.ofNat 32 v.val) 0#32))
        (BitVec.setWidth 32 (IntOp.cmpi .slt (BitVec.ofNat 32 v.val) 0#32))) 1#32)
      (IntOp.cmpi .ne (IntOp.remsi .vector (BitVec.ofNat 32 v.val) 256#32) 0#32))
      (IntOp.subi (IntOp.divsi .vector (BitVec.ofNat 32 v.val) 256#32) 1#32) (IntOp.divsi .vector (BitVec.ofNat 32 v.val) 256#32)
      = BitVec.ofNat 32 (v.val / 256) := by
  revert v; decide +kernel

theorem ownIota_apply (n : Fin 8) (t : Fin 2048) : ownIota (ix2 n t) = BitVec.ofNat 32 (t.val / 256) := by
  pointwise [ownIota]
  exact ownWord t

theorem pastMask_apply (n : Fin 8) (t : Fin 2048) : pastMask (ix2 n t) = BitVec.ofBool (decide (n.val < t.val / 256)) := by
  pointwise [pastMask]
  rw [ownIota_apply, WordCmp.cmpi_slt_ofNat (by omega) (by omega)]

theorem pageRows_apply (x : Vec Ideal S1x2048x128 .f32) (n : Fin 8) (p : Fin 2) (r d : Fin 128) :
    pageRows x n p (ix3 0 r d) = x (ix3 0 (pageRow n p r) d) := by
  pointwise [pageRows]
  rfl

theorem word_inf : (Ideal.ofBits .f32 0xFF800000#32 : EReal) = ⊥ := by simp [Ideal.ofBits, Ideal.ieee]
theorem word_page : (Ideal.ofBits .f32 0x3C000000#32 : EReal) = ((1 / 128 : ℝ) : EReal) := by
  simp [Ideal.ofBits, Ideal.ieee]; rw [← EReal.coe_mul]; norm_num
theorem word_half : (Ideal.ofBits .f32 0x3F000000#32 : EReal) = ((1 / 2 : ℝ) : EReal) := by
  simp [Ideal.ofBits, Ideal.ieee]; rw [← EReal.coe_mul]; norm_num
theorem word_three : (Ideal.ofBits .f32 0x40400000#32 : EReal) = ((3 : ℕ) : EReal) := by
  simp [Ideal.ofBits, Ideal.ieee]; rw [← EReal.coe_mul]; norm_num; rfl

theorem named_log2e : (Named.named κ "log2e" 0x3FB8AA3B#32 : Ideal .f32) = (log2e : EReal) := IdealRules.named_const.ideal_named_scalar _ _ _ _ rfl
theorem named_mask : (Named.named κ "mask" 0xF149F2CA#32 : Ideal .f32) = (⊥ : EReal) := IdealRules.named_const.ideal_named_scalar _ _ _ _ rfl
theorem named_c2 : (Named.named κ "c2" 0x3E0293EE#32 : Ideal .f32) = ((scale * log2e : ℝ) : EReal) := IdealRules.named_const.ideal_named_scalar _ _ _ _ rfl

theorem meanKey_apply (x : Vec Ideal S1x2048x128 .f32) (n : Fin 8) (d : Fin 128) :
    meanKey x n (ix2 0 d) = blockMean (fun t d => x (ix3 0 t d)) n d := by
  pointwise [meanKey, addPage]
  simp only [pageRows_apply]
  rw [word_page, word_half]
  rfl

theorem maskedScores_apply (x1 x2 : Vec Ideal S1x2048x128 .f32) (n : Fin 8) (t : Fin 2048) :
    maskedScores x1 x2 (ix2 n t)
      = if n.val < t.val / 256 then ∑ d : Fin 128, blockMean (fun t d => x2 (ix3 0 t d)) n d * x1 (ix3 0 t d) else ⊥ := by
  pointwise [maskedScores]
  rw [pastMask_apply, word_inf]
  unfold Scalar.select
  refine if_congr (WordCmp.ofBool_decide_eq_one_iff _) (Finset.sum_congr rfl fun d _ => ?_) rfl
  congr 1
  rw [← meanKey_apply]
  fin_cases n <;> rfl

theorem countOne_apply (scm acc : FVec Ideal S8x2048 .f32) (k n : Fin 8) (t : Fin 2048) :
    countOne scm acc k (ix2 n t) = acc (ix2 n t) + ((if Beats (fun m : Fin 8 => scm (ix2 m t)) k n then 1 else 0 : ℕ) : EReal) := by
  pointwise [countOne]
  rw [WordCmp.cmpi_sgt_ofNat (by omega) (by omega), WordCmp.andi_ofBool, WordCmp.ori_ofBool]
  unfold Scalar.select
  congr 1
  by_cases h : Beats (fun m : Fin 8 => scm (ix2 m t)) k n
  · rw [if_pos h, if_pos, Nat.cast_one]
    unfold Beats at h
    rw [WordCmp.ofBool_eq_one_iff']
    simpa using h
  · rw [if_neg h, if_neg, Nat.cast_zero]
    unfold Beats at h
    rw [WordCmp.ofBool_eq_one_iff']
    simpa using h

theorem count_apply (scm : FVec Ideal S8x2048 .f32) (n : Fin 8) (t : Fin 2048) :
    (([0, 1, 2, 3, 4, 5, 6] : List (Fin 8)).foldl (countOne scm) (broadcast S8x2048 (Scalar.ofBits .f32 0x00000000#32))) (ix2 n t)
      = ((Finset.univ.filter fun m : Fin 7 => Beats (fun m : Fin 8 => scm (ix2 m t)) m.castSucc n).card : EReal) := by
  rw [Finset.card_filter, Fin.sum_univ_seven]
  simp only [List.foldl, countOne_apply]
  pointwise
  simp only [Nat.cast_add]
  rfl

theorem choice_apply (x1 x2 : Vec Ideal S1x2048x128 .f32) (n : Fin 8) (t : Fin 2048) [Decidable (Chosen (fun t d => x1 (ix3 0 t d)) (fun t d => x2 (ix3 0 t d)) t n)] :
    choice (maskedScores x1 x2) (ix2 n t)
      = if Chosen (fun t d => x1 (ix3 0 t d)) (fun t d => x2 (ix3 0 t d)) t n then 0 else ⊥ := by
  have h := count_apply (maskedScores x1 x2) n t
  unfold choice
  generalize (([0, 1, 2, 3, 4, 5, 6] : List (Fin 8)).foldl (countOne (maskedScores x1 x2)) (broadcast S8x2048 (Scalar.ofBits .f32 0x00000000#32))) = cnt at h ⊢
  pointwise
  rw [pastMask_apply, h, named_mask, word_three, WordCmp.andi_ofBool]
  unfold Scalar.select
  refine if_congr ?_ rfl rfl
  rw [WordCmp.ofBool_eq_one_iff', Bool.and_eq_true, decide_eq_true_iff, decide_eq_true_iff]
  unfold Chosen
  refine and_congr_right fun hn => ?_
  have hn7 : n.val < 7 := by omega
  obtain ⟨m, rfl⟩ : ∃ m : Fin 7, m.castSucc = n := ⟨⟨n.val, hn7⟩, rfl⟩
  have hs : ∀ k : Fin 7, maskedScores x1 x2 (ix2 k.castSucc t) = score (fun t d => x1 (ix3 0 t d)) (fun t d => x2 (ix3 0 t d)) t k :=
    fun k => maskedScores_apply x1 x2 k.castSucc t
  have hb : ∀ k : Fin 7, Beats (fun m : Fin 8 => maskedScores x1 x2 (ix2 m t)) k.castSucc m.castSucc
      ↔ Beats (score (fun t d => x1 (ix3 0 t d)) (fun t d => x2 (ix3 0 t d)) t) k m := by
    intro k
    unfold Beats
    simp only [hs, Fin.castSucc_lt_castSucc_iff]
  simp only [hb]
  constructor
  · intro hlt
    exact ⟨m, rfl, by unfold rank; exact_mod_cast hlt⟩
  · rintro ⟨m', hm, hlt⟩
    obtain rfl := Fin.castSucc_injective _ hm
    unfold rank at hlt
    exact_mod_cast hlt

/-! ## The sum and the largest over the visited blocks -/

theorem visited (j : Fin 8) : (j :: earlier j).Nodup ∧ (j :: earlier j).toFinset = Finset.univ.filter (fun n => n ≤ j) := by
  revert j; decide

theorem foldl_max {α : Type} (g : α → EReal) (a : EReal) (L : List α) [DecidableEq α] :
    L.foldl (fun m n => max m (g n)) a = max a (L.toFinset.sup g) := by
  induction L generalizing a with
  | nil => simp
  | cons n L ih => rw [List.foldl_cons, ih, List.toFinset_cons, Finset.sup_insert, max_assoc]

/-- The keys of the blocks up to `j`. -/
def keysTo (j : Fin 8) : Finset (Fin 8 × Fin 256) := (Finset.univ.filter fun n => n ≤ j) ×ˢ Finset.univ

theorem visited_sum (j : Fin 8) (g : Fin 8 → Fin 256 → EReal) :
    ((j :: earlier j).map fun n => ∑ l, g n l).sum = ∑ a ∈ keysTo j, g a.1 a.2 := by
  rw [← List.sum_toFinset _ (visited j).1, (visited j).2, keysTo, Finset.sum_product]

theorem visited_sup (j : Fin 8) (g : Fin 8 → Fin 256 → EReal) :
    (earlier j).foldl (fun m n => max m (Finset.univ.sup fun l => g n l)) (Finset.univ.sup fun l => g j l)
      = (keysTo j).sup fun a => g a.1 a.2 := by
  rw [foldl_max (fun n => Finset.univ.sup fun l => g n l), keysTo, Finset.sup_product_left, ← (visited j).2, List.toFinset_cons, Finset.sup_insert]

/-! ## The kernel's logits -/

theorem row_div (j : Fin 8) (r : Fin 256) : (row j r).val / 256 = j.val := by unfold row; simp only; omega
theorem row_mod (j : Fin 8) (r : Fin 256) : (row j r).val % 256 = r.val := by unfold row; simp only; omega

theorem mul_bot_log2e : (⊥ : EReal) * (log2e : EReal) = ⊥ := EReal.bot_mul_coe_of_pos log2e_pos

theorem add_mul_log2e (a b : EReal) : (a + b) * (log2e : EReal) = a * (log2e : EReal) + b * (log2e : EReal) :=
  EReal.right_distrib_of_nonneg_of_ne_top (EReal.coe_nonneg.mpr log2e_pos.le) (EReal.coe_ne_top _) a b

/-- A logit, once the kernel's factor and what it adds are known. -/
theorem logit_scaled (p b : EReal) : p * ((scale * log2e : ℝ) : EReal) + b * (log2e : EReal) = (p * (scale : EReal) + b) * (log2e : EReal) := by
  rw [EReal.coe_mul, ← mul_assoc, add_mul_log2e]

theorem logits_apply (f : EReal) (x1 x2 : Vec Ideal S1x2048x128 .f32) (x5 : Vec Ideal S1x512x256 .f32) (j n : Fin 8) (l r : Fin 256) (hn : n ≤ j) :
    logits (f * (log2e : EReal) : Ideal .f32) x1 x2 x5 j n (ix2 l r)
      = attnLogit (fun t d => x1 (ix3 0 t d)) (fun t d => x2 (ix3 0 t d)) (fun p r => x5 (ix3 0 p r)) f (row j r) (n, l) * (log2e : EReal) := by
  classical
  unfold logits
  rw [logit_apply, added_apply, own_apply, adj_apply, choice_apply, named_c2, named_log2e, named_mask]
  unfold attnLogit Attended pairBias
  simp only [row_div, row_mod]
  by_cases h1 : n = j
  · subst h1
    simp only [↓reduceIte]
    by_cases h : l ≤ r
    · rw [if_pos h, if_pos (show l.val ≤ r.val from h), logit_scaled]
    · rw [if_neg h, if_neg (show ¬ l.val ≤ r.val from h), EReal.add_bot, mul_bot_log2e]
  · have h1' : n.val ≠ j.val := fun e => h1 (Fin.ext e)
    simp only [if_neg h1, if_neg h1']
    by_cases h2 : n.val + 1 = j.val
    · simp only [if_pos h2]
      split_ifs
      · rw [add_zero, logit_scaled]
      · rw [EReal.add_bot, EReal.add_bot, mul_bot_log2e]
    · simp only [if_neg h2]
      split_ifs
      · rw [add_zero, logit_scaled]
      · rw [EReal.add_bot, EReal.add_bot, mul_bot_log2e]

theorem logit_outside (Q K : Fin 2048 → Fin 128 → EReal) (B : Fin 512 → Fin 256 → EReal) (f : EReal) (j : Fin 8) (r : Fin 256)
    (a : Fin 8 × Fin 256) (ha : a ∉ keysTo j) : attnLogit Q K B f (row j r) a = ⊥ := by
  have hj : ¬ a.1 ≤ j := by simpa [keysTo] using ha
  have hv : j.val < a.1.val := not_le.mp hj
  unfold attnLogit
  rw [if_neg]
  unfold Attended Chosen
  rw [row_div, if_neg (by omega)]
  rintro ⟨h, -⟩
  omega

/-- The weighted sum over the visited blocks, divided by the weights' sum, is the softmax's over all keys. -/
theorem normalised (s : Fin 8 → FVec Ideal S256x256 .f32) (x3 : Vec Ideal S1x2048x128 .f32) (j : Fin 8) (r : Fin 256) (d : Fin 128)
    (x : Fin 8 × Fin 256 → EReal) (hx : ∀ a, a ∉ keysTo j → x a = ⊥)
    (hs : ∀ n l, n ≤ j → s n (ix2 l r) = x (n, l) * (log2e : EReal)) :
    gather (peak s j (earlier j)) s x3 (j :: earlier j) (ix2 d r) * Ideal.div 1 (total (peak s j (earlier j)) s (j :: earlier j) (ix2 0 r))
      = ∑ a : Fin 8 × Fin 256, x3 (ix3 0 (row a.1 a.2) d) * Ideal.exp ((x a - Finset.univ.sup x)
        - Ideal.log (∑ b : Fin 8 × Fin 256, Ideal.exp (x b - Finset.univ.sup x))) := by
  rw [gather_apply, total_apply, peak_apply, visited_sup j fun n l => s n (ix2 l r)]
  generalize hM : ((keysTo j).sup fun a => s a.1 (ix2 a.2 r)) = M
  rw [visited_sum j fun n l => Ideal.exp2 (s n (ix2 l r) - M), visited_sum j fun n l => x3 (ix3 0 (row n l) d) * Ideal.exp2 (s n (ix2 l r) - M), ← hM]
  exact attention_eq (keysTo j) x (fun a => s a.1 (ix2 a.2 r)) (fun a => x3 (ix3 0 (row a.1 a.2) d)) hx
    (fun a ha => hs a.1 a.2 (by simpa [keysTo] using ha))

/-- What the kernel stores is the gated attention. -/
theorem piece_apply (f : EReal) (x1 x2 x3 x4 : Vec Ideal S1x2048x128 .f32) (x5 : Vec Ideal S1x512x256 .f32) (j : Fin 8) (r : Fin 256) (d : Fin 128) :
    piece (f * (log2e : EReal) : Ideal .f32) x1 x2 x3 x4 x5 j (ix3 0 r d)
      = attnOut (fun t d => x1 (ix3 0 t d)) (fun t d => x2 (ix3 0 t d)) (fun t d => x3 (ix3 0 t d)) (fun t d => x4 (ix3 0 t d))
          (fun p r => x5 (ix3 0 p r)) f (row j r) d := by
  unfold piece attnOut
  rw [gated_apply, blockRows_apply]
  congr 1
  exact normalised _ x3 j r d _ (fun a ha => logit_outside _ _ _ _ j r a ha) (fun n l hn => logits_apply f x1 x2 x5 j n l r hn)

end Cert.Moba

end
-- ==== Proof.Heads.lean ====
/-
  The gated attention of every head of every sequence, as a formula in the call's six arrays.
-/
module

public import proofs.«01_k».proof.Proof.Spec
public import Idealize.ShloMosaic.Lib.Pointwise

@[expose] public section

noncomputable section

namespace Cert.Moba

open Idealize.ShloMosaic

/-- The rows of one head of one sequence. -/
def headRows (A : (⟨3, ![16, 2048, 2048]⟩ : Shape).Idx → EReal) (b h : Fin 16) (t : Fin 2048) (d : Fin 128) : EReal :=
  A (ix3 b t ⟨128 * h.val + d.val, by omega⟩)

/-- The gated attention of every head of every sequence. -/
def gatedAttention (A0 : (⟨2, ![32, 16]⟩ : Shape).Idx → EReal) (A1 A2 A3 A4 : (⟨3, ![16, 2048, 2048]⟩ : Shape).Idx → EReal)
    (A5 : (⟨3, ![16, 512, 256]⟩ : Shape).Idx → EReal) (y : (⟨3, ![16, 2048, 2048]⟩ : Shape).Idx) : EReal :=
  attnOut (headRows A1 (y 0) ⟨(y 2).val / 128, Nat.div_lt_of_lt_mul (y 2).isLt⟩) (headRows A2 (y 0) ⟨(y 2).val / 128, Nat.div_lt_of_lt_mul (y 2).isLt⟩)
    (headRows A3 (y 0) ⟨(y 2).val / 128, Nat.div_lt_of_lt_mul (y 2).isLt⟩) (headRows A4 (y 0) ⟨(y 2).val / 128, Nat.div_lt_of_lt_mul (y 2).isLt⟩)
    (fun p r => A5 (ix3 ⟨(y 2).val / 128, Nat.div_lt_of_lt_mul (y 2).isLt⟩ p r)) (A0 (ix2 31 ⟨(y 2).val / 128, Nat.div_lt_of_lt_mul (y 2).isLt⟩))
    (y 1) ⟨(y 2).val % 128, Nat.mod_lt _ (by decide)⟩

theorem gatedAttention_apply (A0 : (⟨2, ![32, 16]⟩ : Shape).Idx → EReal) (A1 A2 A3 A4 : (⟨3, ![16, 2048, 2048]⟩ : Shape).Idx → EReal)
    (A5 : (⟨3, ![16, 512, 256]⟩ : Shape).Idx → EReal) (b h : Fin 16) (p : Fin 2048) (d : Fin 128) (hd : 128 * h.val + d.val < 2048) :
    gatedAttention A0 A1 A2 A3 A4 A5 (ix3 b p ⟨128 * h.val + d.val, hd⟩)
      = attnOut (headRows A1 b h) (headRows A2 b h) (headRows A3 b h) (headRows A4 b h) (fun q r => A5 (ix3 h q r)) (A0 (ix2 31 h)) p d := by
  have aux : ∀ (h' : Fin 16) (d' : Fin 128), h' = h → d' = d →
      attnOut (headRows A1 b h') (headRows A2 b h') (headRows A3 b h') (headRows A4 b h') (fun q r => A5 (ix3 h' q r)) (A0 (ix2 31 h')) p d'
        = attnOut (headRows A1 b h) (headRows A2 b h) (headRows A3 b h) (headRows A4 b h) (fun q r => A5 (ix3 h q r)) (A0 (ix2 31 h)) p d := by
    rintro _ _ rfl rfl; rfl
  exact aux ⟨(128 * h.val + d.val) / 128, by omega⟩ ⟨(128 * h.val + d.val) % 128, by omega⟩
    (Fin.ext (by show (128 * h.val + d.val) / 128 = h.val; omega)) (Fin.ext (by show (128 * h.val + d.val) % 128 = d.val; omega))

theorem attnOut_congr {Q Q' K K' V V' G G' : Fin 2048 → Fin 128 → EReal} {B B' : Fin 512 → Fin 256 → EReal} {f f' : EReal}
    (h1 : Q = Q') (h2 : K = K') (h3 : V = V') (h4 : G = G') (h5 : B = B') (h6 : f = f') (t : Fin 2048) (d : Fin 128) :
    attnOut Q K V G B f t d = attnOut Q' K' V' G' B' f' t d := by
  rw [h1, h2, h3, h4, h5, h6]

end Cert.Moba

end
-- ==== Proof.KValue.lean ====
/-
  The kernel's result array: at every place, the gated attention of its sequence and head.
-/
module

public import proofs.«01_k».proof.Proof.KRun
public import proofs.«01_k».proof.Proof.KPoint
public import proofs.«01_k».proof.Proof.Heads

@[expose] public section

set_option maxRecDepth 100000

noncomputable section

namespace Cert.Moba

open Cert.KernelIdeal Cert.KernelIdeal.Gen Cert.KernelIdeal.Gen.kernelRun0_A Idealize.ShloMosaic Idealize.ShloMosaic.TcCoe Idealize.SL.Sem
open Idealize.ShloMosaic.Pipeline (Dat)

attribute [local irreducible] piece attnOut

theorem piece_at (f : EReal) (x1 x2 x3 x4 : Vec Ideal S1x2048x128 .f32) (x5 : Vec Ideal S1x512x256 .f32) (j : Fin 8) (x : S1x256x128.Idx) :
    piece (f * (log2e : EReal) : Ideal .f32) x1 x2 x3 x4 x5 j x
      = attnOut (fun t d => x1 (ix3 0 t d)) (fun t d => x2 (ix3 0 t d)) (fun t d => x3 (ix3 0 t d)) (fun t d => x4 (ix3 0 t d))
          (fun p r => x5 (ix3 0 p r)) f ((Rect.unit (s := S1x2048x128) ![0, 256 * j.val, 0] S1x256x128.size (rows_inb j)).emb x 1)
          ((Rect.unit (s := S1x2048x128) ![0, 256 * j.val, 0] S1x256x128.size (rows_inb j)).emb x 2) := by
  obtain ⟨r, d, rfl⟩ : ∃ (r : Fin 256) (d : Fin 128), x = (ix3 0 r d : S1x256x128.Idx) :=
    ⟨x 1, x 2, funext fun a => match a with
      | ⟨0, _⟩ => Subsingleton.elim (α := Fin 1) _ _
      | ⟨1, _⟩ => rfl
      | ⟨2, _⟩ => rfl⟩
  have e1 : (Rect.unit (s := S1x2048x128) ![0, 256 * j.val, 0] S1x256x128.size (rows_inb j)).emb (ix3 0 r d : S1x256x128.Idx) 1 = (row j r : Fin 2048) :=
    Fin.ext (Rect.idx_unit_val (s := S1x2048x128) ![0, 256 * j.val, 0] S1x256x128.size (rows_inb j) (ix3 0 r d : S1x256x128.Idx) 1)
  have e2 : (Rect.unit (s := S1x2048x128) ![0, 256 * j.val, 0] S1x256x128.size (rows_inb j)).emb (ix3 0 r d : S1x256x128.Idx) 2 = (d : Fin 128) :=
    Fin.ext ((Rect.idx_unit_val (s := S1x2048x128) ![0, 256 * j.val, 0] S1x256x128.size (rows_inb j) (ix3 0 r d : S1x256x128.Idx) 2).trans (Nat.zero_add _))
  rw [piece_apply]
  exact congrArg₂ (attnOut _ _ _ _ _ _) e1.symm e2.symm

section Point

variable (c : Dev nD) (i : grid0.Coords)
    (arg2 : Memref sig .tc .smem S32x16 .f32) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1x2048x128 .f32) (harg6 : arg6.IsWhole)
    (arg7 : Memref sig .tc .vmem S1x512x256 .f32) (harg7 : arg7.IsWhole)
    (arg8 : Memref sig .tc .vmem S1x2048x128 .bf16) (harg8 : arg8.IsWhole)
    (arg9 : Memref sig .tc .vmem S8x128x256 .bf16) (harg9 : arg9.IsWhole)
    (arg10 : Memref sig .tc .vmem S8x256x128 .bf16) (harg10 : arg10.IsWhole)
    (arg11 : Memref sig .tc .vmem S8x8x256 .f32) (harg11 : arg11.IsWhole)
    (arg12 : Memref sig .tc .vmem S8x256x256 .f32) (harg12 : arg12.IsWhole)
    (x0 : Vec Ideal S32x16 .f32) (x1 x2 x3 x4 : Vec Ideal S1x2048x128 .f32) (x5 : Vec Ideal S1x512x256 .f32)

theorem off1_eq : k0_off1 i = ![31, (i 1).val] := by
  revert i; decide +kernel

theorem farBias_eq : farBias c i arg2 harg2 x0 = (x0 (ix2 31 (i 1)) * (log2e : EReal) : EReal) := by
  unfold farBias sl.r
  rw [View.readAt_eq_ld, harg2.read_unread]
  pointwise [k0_pay2]
  rw [named_log2e]
  congr 2
  funext a
  match a with
  | ⟨0, _⟩ => exact Fin.ext (congrFun (off1_eq i) 0)
  | ⟨1, _⟩ => exact Fin.ext (congrFun (off1_eq i) 1)

theorem row_split (t : Fin 2048) : row ⟨t.val / 256, by omega⟩ ⟨t.val % 256, by omega⟩ = t := by
  apply Fin.ext; simp only [row]; omega

set_option maxHeartbeats 1000000 in
theorem out_apply (t : Fin 2048) (d : Fin 128) :
    out0_A_6 c i arg2 harg2 arg3 harg3 arg4 harg4 arg5 harg5 arg6 harg6 arg7 harg7 arg8 harg8 arg9 harg9 arg10 harg10 arg11 harg11 arg12 harg12 x0 x1 x2 x3 x4 x5 (ix3 0 t d)
      = attnOut (fun t d => x1 (ix3 0 t d)) (fun t d => x2 (ix3 0 t d)) (fun t d => x3 (ix3 0 t d)) (fun t d => x4 (ix3 0 t d))
          (fun p r => x5 (ix3 0 p r)) (x0 (ix2 31 (i 1))) t d := by
  have hc := cover0_A_6 c i arg2 harg2 arg3 harg3 arg4 harg4 arg5 harg5 arg6 harg6 arg7 harg7 arg8 harg8 arg9 harg9 arg10 harg10 arg11 harg11 arg12 harg12 x0 x1 x2 x3 x4 x5 (ix3 0 t d)
  unfold out0_A_6
  rw [View.read_writes_junk_eq_canon]
  rw [run_pieces] at hc ⊢
  rw [harg3.read_unread, harg4.read_unread, harg5.read_unread, harg6.read_unread, harg7.read_unread, farBias_eq] at hc ⊢
  refine View.canon_apply_of_pieces (fun y : S1x2048x128.Idx => attnOut (fun t d => x1 (ix3 0 t d)) (fun t d => x2 (ix3 0 t d)) (fun t d => x3 (ix3 0 t d)) (fun t d => x4 (ix3 0 t d))
          (fun p r => x5 (ix3 0 p r)) (x0 (ix2 31 (i 1))) (y 1) (y 2)) _ ?_ (ix3 0 t d) hc
  intro pc hpc x
  obtain ⟨j, -, rfl⟩ := List.mem_map.mp hpc
  exact piece_at _ x1 x2 x3 x4 x5 j x

end Point

/-! ## The array -/

theorem index6 : ∀ t : Fin cfg0.N, win0_6.index t = ![(grid0.coords t 0).val, 0, (grid0.coords t 1).val] := by decide +kernel
theorem index1 : ∀ t : Fin cfg0.N, win0_1.index t = ![(grid0.coords t 0).val, 0, (grid0.coords t 1).val] := by decide +kernel
theorem index2 : ∀ t : Fin cfg0.N, win0_2.index t = ![(grid0.coords t 0).val, 0, (grid0.coords t 1).val] := by decide +kernel
theorem index3 : ∀ t : Fin cfg0.N, win0_3.index t = ![(grid0.coords t 0).val, 0, (grid0.coords t 1).val] := by decide +kernel
theorem index4 : ∀ t : Fin cfg0.N, win0_4.index t = ![(grid0.coords t 0).val, 0, (grid0.coords t 1).val] := by decide +kernel
theorem index5 : ∀ t : Fin cfg0.N, win0_5.index t = ![(grid0.coords t 1).val, 0, 0] := by decide +kernel
theorem index0 : ∀ t : Fin cfg0.N, win0_0.index t = ![0, 0] := by decide +kernel

variable (m : (ℓ : Loc nD τ sig) → Buf (Elt Ideal) ℓ) (ρ : Dev nD → PrngReg)

/-- The kernel's result array is the gated attention of its arguments. -/
theorem array_eq (c : Dev nD) :
    (dats m 0 c).arrAt 6 cfg0.N = gatedAttention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ (by decide +kernel) fun t hf y => ?_
  blk_simp
  rw [after0_6]
  obtain ⟨p, d, rfl⟩ : ∃ (p : Fin 2048) (d : Fin 128), y = (ix3 0 p d : S1x2048x128.Idx) :=
    ⟨y 1, y 2, funext fun a => match a with
      | ⟨0, _⟩ => Subsingleton.elim (α := Fin 1) _ _
      | ⟨1, _⟩ => rfl
      | ⟨2, _⟩ => rfl⟩
  have hh : (grid0.coords t 1).val < 16 := (grid0.coords t 1).isLt
  have e : (win0_6.blk t).view.emb (ix3 0 p d : S1x2048x128.Idx)
      = (ix3 (grid0.coords t 0 : Fin 16) p ⟨128 * (grid0.coords t 1 : Fin 16).val + d.val, by omega⟩ : S16x2048x2048.Idx) := by
    blk_ext [index6 t]
  refine (out_apply _ _ _ _ _ _ _ _ _ _ _ _ _ _ _ _ _ _ _ _ _ _ _ _ _ _ _ _ _ _ p d).trans ?_
  rw [e]
  refine Eq.trans ?_ (gatedAttention_apply _ _ _ _ _ _ _ _ p d _).symm
  have r1 : (fun (q : Fin 2048) (d : Fin 128) => iblk m c 1 t (ix3 0 q d : S1x2048x128.Idx)) = headRows (m ((c.tc : Thread nD τ).loc main_arg1)) (grid0.coords t 0) (grid0.coords t 1) := by
    funext q d
    unfold headRows
    blk_ext [iblk, V, index1 t]
  have r2 : (fun (q : Fin 2048) (d : Fin 128) => iblk m c 2 t (ix3 0 q d : S1x2048x128.Idx)) = headRows (m ((c.tc : Thread nD τ).loc main_arg2)) (grid0.coords t 0) (grid0.coords t 1) := by
    funext q d
    unfold headRows
    blk_ext [iblk, V, index2 t]
  have r3 : (fun (q : Fin 2048) (d : Fin 128) => iblk m c 3 t (ix3 0 q d : S1x2048x128.Idx)) = headRows (m ((c.tc : Thread nD τ).loc main_arg3)) (grid0.coords t 0) (grid0.coords t 1) := by
    funext q d
    unfold headRows
    blk_ext [iblk, V, index3 t]
  have r4 : (fun (q : Fin 2048) (d : Fin 128) => iblk m c 4 t (ix3 0 q d : S1x2048x128.Idx)) = headRows (m ((c.tc : Thread nD τ).loc main_arg4)) (grid0.coords t 0) (grid0.coords t 1) := by
    funext q d
    unfold headRows
    blk_ext [iblk, V, index4 t]
  have r5 : (fun (q : Fin 512) (r : Fin 256) => iblk m c 5 t (ix3 0 q r : S1x512x256.Idx)) = fun q r => m ((c.tc : Thread nD τ).loc main_arg5) (ix3 (grid0.coords t 1 : Fin 16) q r) := by
    funext q r
    blk_ext [iblk, V, index5 t]
  have r0 : iblk m c 0 t (ix2 31 (grid0.coords t 1) : S32x16.Idx) = m ((c.tc : Thread nD τ).loc main_arg0) (ix2 31 (grid0.coords t 1) : S32x16.Idx) := by
    blk_ext [iblk, V, index0 t]
  exact attnOut_congr r1 r2 r3 r4 r5 r0 p d

end Cert.Moba

end
-- ==== Proof.RefTerms.lean ====
/-
  The reference's result in named parts, each part read at an index: the block of a query, the mean keys and the scores,
  the chosen blocks, the attended keys, the position bias, and the logits.
-/
module

public import proofs.«01_k».proof.Proof.Heads
public import proofs.«01_k».proof.Proof.Gen.ReferenceIdeal.Run
public import Idealize.ShloMosaic.Lib.IdealHost
public import Idealize.ShloMosaic.Lib.Routing.OpsOrder
public import Idealize.ShloMosaic.Lib.Pointwise

@[expose] public section

set_option maxRecDepth 100000

noncomputable section

namespace Cert.Moba.Plain

open Cert.ReferenceIdeal Cert.ReferenceIdeal.Gen Idealize.ShloMosaic Idealize.ShloMosaic.TcCoe Idealize.SL.Sem Idealize.ShloMosaic.StableHlo

/-! ## The parts -/

/-- The block of each query. -/
def own : IVec S2048 32 :=
  select (andi (cmpi .ne (signi (iotaInDim S2048 32 0)) (broadcastInDim S2048 ![] bcast_S_S2048 (signi (id (constantI S_ 32 256#32)))))
      (cmpi .ne (Host.remsi (iotaInDim S2048 32 0) (broadcastInDim S2048 ![] bcast_S_S2048 (id (constantI S_ 32 256#32))))
        (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- 256, as the divisor of the places. -/
def divisor : IVec S_ 32 :=
  select (cmpi .eq (id (constantI S_ 32 256#32)) (constantI S_ 32 0#32)) (constantI S_ 32 1#32) (id (constantI S_ 32 256#32))

/-- The place of each query in its block. -/
def place : IVec S2048 32 :=
  select (andi (cmpi .ne (cmpi .slt (Host.remsi (iotaInDim S2048 32 0) (broadcastInDim S2048 ![] bcast_S_S2048 divisor))
          (broadcastInDim S2048 ![] bcast_S_S2048 (constantI S_ 32 0#32)))
        (broadcastInDim S2048 ![] bcast_S_S2048 (cmpi .slt divisor (constantI S_ 32 0#32))))
      (cmpi .ne (Host.remsi (iotaInDim S2048 32 0) (broadcastInDim S2048 ![] bcast_S_S2048 divisor))
        (broadcastInDim S2048 ![] bcast_S_S2048 (constantI S_ 32 0#32))))
    (addi (Host.remsi (iotaInDim S2048 32 0) (broadcastInDim S2048 ![] bcast_S_S2048 divisor)) (broadcastInDim S2048 ![] bcast_S_S2048 divisor))
    (Host.remsi (iotaInDim S2048 32 0) (broadcastInDim S2048 ![] bcast_S_S2048 divisor))

/-- The heads of an array of rows. -/
def heads (A : Vec Ideal S16x2048x2048 .f32) : FVec Ideal S16x2048x16x128 .f32 :=
  shapeCast S16x2048x16x128 A shapeCasts_S16x2048x2048_S16x2048x16x128

/-- The blocks of an array of rows. -/
def blocks (A : Vec Ideal S16x2048x2048 .f32) : FVec Ideal S16x8x256x16x128 .f32 :=
  shapeCast S16x8x256x16x128 (heads A) shapeCasts_S16x2048x16x128_S16x8x256x16x128

/-- The mean keys of the pages. -/
def pageMeans (A2 : Vec Ideal S16x2048x2048 .f32) : FVec Ideal S16x14x16x128 .f32 :=
  Host.divf
    (Host.reduceAdd (shapeCast S16x14x128x16x128 (extractStridedSlice S16x1792x16x128 ![0, 0, 0, 0] (heads A2) slices_S16x2048x16x128_S16x1792x16x128_0_0_0_0)
        shapeCasts_S16x1792x16x128_S16x14x128x16x128) (constant S_ .f32 0x00000000#32) reducesTo_S16x14x128x16x128_S16x14x16x128_d2 h_S_)
    (broadcastInDim S16x14x16x128 ![] bcast_S_S16x14x16x128 (constant S_ .f32 0x43000000#32))

/-- The mean keys of the blocks. -/
def means (A2 : Vec Ideal S16x2048x2048 .f32) : FVec Ideal S16x7x16x128 .f32 :=
  Host.divf
    (Host.reduceAdd (shapeCast S16x7x2x16x128 (pageMeans A2) shapeCasts_S16x14x16x128_S16x7x2x16x128)
      (constant S_ .f32 0x00000000#32) reducesTo_S16x7x2x16x128_S16x7x16x128_d2 h_S_)
    (broadcastInDim S16x7x16x128 ![] bcast_S_S16x7x16x128 (constant S_ .f32 0x40000000#32))

/-- Whether a block lies wholly before a query's. -/
def past : IVec S2048x7 1 :=
  cmpi .slt (broadcastInDim S2048x7 ![0, 1] bcast_S1x7_S2048x7_0_1 (broadcastInDim S1x7 ![1] bcast_S7_S1x7_1 (iotaInDim S7 32 0)))
    (broadcastInDim S2048x7 ![0, 1] bcast_S2048x1_S2048x7_0_1 (broadcastInDim S2048x1 ![0] bcast_S2048_S2048x1_0 own))

/-- The scores of the blocks. -/
def scores (A1 A2 : Vec Ideal S16x2048x2048 .f32) : FVec Ideal S16x2048x16x7 .f32 :=
  select (broadcastInDim S16x2048x16x7 ![0, 1, 2, 3] bcast_S1x2048x1x7_S16x2048x16x7_0_1_2_3 (broadcastInDim S1x2048x1x7 ![1, 3] bcast_S2048x7_S1x2048x1x7_1_3 past))
    (transpose S16x2048x16x7 [0, 3, 1, 2] (Host.dotGeneral dot_S16x7x16x128_S16x2048x16x128_S16x16x7x2048_3_3_1_1_02_02 none (means A2) (heads A1))
      transposes_S16x16x7x2048_S16x2048x16x7_0_3_1_2)
    (broadcastInDim S16x2048x16x7 ![] bcast_S_S16x2048x16x7 (id (constant S_ .f32 0xFF800000#32)))

/-- The blocks of the three highest scores. -/
def picks (A1 A2 : Vec Ideal S16x2048x2048 .f32) : IVec S16x2048x16x3 32 :=
  (Host.topK S16x2048x16x3 3 (FloatOps.cmpfTotal .gt) (scores A1 A2) sliceFits_S16x2048x16x7_S16x2048x16x3).2

/-- Whether each of the three is block `n`, and before the query's. -/
def isPick (P : IVec S16x2048x16x3 32) : IVec S16x2048x16x3x8 1 :=
  andi (cmpi .eq (broadcastInDim S16x2048x16x3x8 ![0, 1, 2, 3, 4] bcast_S16x2048x16x3x1_S16x2048x16x3x8_0_1_2_3_4
        (broadcastInDim S16x2048x16x3x1 ![0, 1, 2, 3] bcast_S16x2048x16x3_S16x2048x16x3x1_0_1_2_3 P))
      (broadcastInDim S16x2048x16x3x8 ![0, 1, 2, 3, 4] bcast_S1x1x1x1x8_S16x2048x16x3x8_0_1_2_3_4 (broadcastInDim S1x1x1x1x8 ![4] bcast_S8_S1x1x1x1x8_4 (iotaInDim S8 32 0))))
    (broadcastInDim S16x2048x16x3x8 ![0, 1, 2, 3, 4] bcast_S16x2048x16x3x1_S16x2048x16x3x8_0_1_2_3_4
      (broadcastInDim S16x2048x16x3x1 ![0, 1, 2, 3] bcast_S16x2048x16x3_S16x2048x16x3x1_0_1_2_3
        (cmpi .slt P (broadcastInDim S16x2048x16x3 ![0, 1, 2, 3] bcast_S1x2048x1x1_S16x2048x16x3_0_1_2_3 (broadcastInDim S1x2048x1x1 ![1] bcast_S2048_S1x2048x1x1_1 own)))))

/-- Whether a block is chosen. -/
def chosen (A1 A2 : Vec Ideal S16x2048x2048 .f32) : IVec S16x2048x16x8 1 :=
  Host.reduce IntOp.ori (isPick (picks A1 A2)) (constantI S_ 1 0#1) reducesTo_S16x2048x16x3x8_S16x2048x16x8_d3 h_S_

/-- Whether a key of the query's own block is not after it. -/
def causal : IVec S2048x256 1 :=
  cmpi .sle (broadcastInDim S2048x256 ![0, 1] bcast_S1x256_S2048x256_0_1 (broadcastInDim S1x256 ![1] bcast_S256_S1x256_1 (iotaInDim S256 32 0)))
    (broadcastInDim S2048x256 ![0, 1] bcast_S2048x1_S2048x256_0_1 (broadcastInDim S2048x1 ![0] bcast_S2048_S2048x1_0 place))

/-- Whether a block is the query's own. -/
def isOwn : IVec S2048x8 1 :=
  cmpi .eq (broadcastInDim S2048x8 ![0, 1] bcast_S2048x1_S2048x8_0_1 (broadcastInDim S2048x1 ![0] bcast_S2048_S2048x1_0 own))
    (broadcastInDim S2048x8 ![0, 1] bcast_S1x8_S2048x8_0_1 (broadcastInDim S1x8 ![1] bcast_S8_S1x8_1 (iotaInDim S8 32 0)))

/-- Whether a key is attended to. -/
def attended (C : IVec S16x2048x16x8 1) : IVec S16x2048x16x8x256 1 :=
  select (broadcastInDim S16x2048x16x8x256 ![0, 1, 2, 3, 4] bcast_S1x2048x1x8x1_S16x2048x16x8x256_0_1_2_3_4 (broadcastInDim S1x2048x1x8x1 ![1, 3] bcast_S2048x8_S1x2048x1x8x1_1_3 isOwn))
    (broadcastInDim S16x2048x16x8x256 ![0, 1, 2, 3, 4] bcast_S1x2048x1x1x256_S16x2048x16x8x256_0_1_2_3_4
      (broadcastInDim S1x2048x1x1x256 ![1, 4] bcast_S2048x256_S1x2048x1x1x256_1_4 causal))
    (broadcastInDim S16x2048x16x8x256 ![0, 1, 2, 3, 4] bcast_S16x2048x16x8x1_S16x2048x16x8x256_0_1_2_3_4
      (broadcastInDim S16x2048x16x8x1 ![0, 1, 2, 3] bcast_S16x2048x16x8_S16x2048x16x8x1_0_1_2_3 C))

/-- The bias by the places of query and key. -/
def places (A5 : Vec Ideal S16x512x256 .f32) : FVec Ideal S2048x16x2x256 .f32 :=
  shapeCast S2048x16x2x256
    (broadcastInDim S8x256x1x16x1x2x1x256 ![0, 1, 2, 3, 4, 5, 6, 7] bcast_S1x256x1x16x1x2x1x256_S8x256x1x16x1x2x1x256_0_1_2_3_4_5_6_7
      (shapeCast S1x256x1x16x1x2x1x256
        (transpose S256x16x2x256 [3, 0, 1, 2] (shapeCast S16x2x256x256 A5 shapeCasts_S16x512x256_S16x2x256x256) transposes_S16x2x256x256_S256x16x2x256_3_0_1_2)
        shapeCasts_S256x16x2x256_S1x256x1x16x1x2x1x256))
    shapeCasts_S8x256x1x16x1x2x1x256_S2048x16x2x256

/-- How many blocks before the query's a block is. -/
def back : IVec S2048x1x8x1 32 :=
  broadcastInDim S2048x1x8x1 ![0, 2] bcast_S2048x8_S2048x1x8x1_0_2
    (subi (broadcastInDim S2048x8 ![0, 1] bcast_S2048x1_S2048x8_0_1 (broadcastInDim S2048x1 ![0] bcast_S2048_S2048x1_0 own))
      (broadcastInDim S2048x8 ![0, 1] bcast_S1x8_S2048x8_0_1 (broadcastInDim S1x8 ![1] bcast_S8_S1x8_1 (iotaInDim S8 32 0))))

/-- The position bias of query and key. -/
def bias (A0 : Vec Ideal S32x16 .f32) (A5 : Vec Ideal S16x512x256 .f32) : FVec Ideal S2048x16x8x256 .f32 :=
  select (broadcastInDim S2048x16x8x256 ![0, 1, 2, 3] bcast_S2048x1x8x1_S2048x16x8x256_0_1_2_3
      (cmpi .eq back (broadcastInDim S2048x1x8x1 ![] bcast_S_S2048x1x8x1 (constantI S_ 32 0#32))))
    (broadcastInDim S2048x16x8x256 ![0, 1, 2, 3] bcast_S2048x16x1x256_S2048x16x8x256_0_1_2_3
      (extractStridedSlice S2048x16x1x256 ![0, 0, 0, 0] (places A5) slices_S2048x16x2x256_S2048x16x1x256_0_0_0_0))
    (select (broadcastInDim S2048x16x8x256 ![0, 1, 2, 3] bcast_S2048x1x8x1_S2048x16x8x256_0_1_2_3
        (cmpi .eq back (broadcastInDim S2048x1x8x1 ![] bcast_S_S2048x1x8x1 (constantI S_ 32 1#32))))
      (broadcastInDim S2048x16x8x256 ![0, 1, 2, 3] bcast_S2048x16x1x256_S2048x16x8x256_0_1_2_3
        (extractStridedSlice S2048x16x1x256 ![0, 0, 1, 0] (places A5) slices_S2048x16x2x256_S2048x16x1x256_0_0_1_0))
      (broadcastInDim S2048x16x8x256 ![0, 1, 2, 3] bcast_S1x16x1x1_S2048x16x8x256_0_1_2_3
        (broadcastInDim S1x16x1x1 ![1] bcast_S16_S1x16x1x1_1 (shapeCast S16 (extractStridedSlice S1x16 ![31, 0] A0 slices_S32x16_S1x16_31_0) shapeCasts_S1x16_S16))))

/-- The logits before the mask. -/
def rawLogits (A0 : Vec Ideal S32x16 .f32) (A1 A2 : Vec Ideal S16x2048x2048 .f32) (A5 : Vec Ideal S16x512x256 .f32) : FVec Ideal S16x2048x16x8x256 .f32 :=
  addf (mulf (transpose S16x2048x16x8x256 [0, 4, 1, 2, 3]
        (Host.dotGeneral dot_S16x8x256x16x128_S16x2048x16x128_S16x16x8x256x2048_4_3_12_1_03_02 none (blocks A2) (heads A1))
        transposes_S16x16x8x256x2048_S16x2048x16x8x256_0_4_1_2_3)
      (broadcastInDim S16x2048x16x8x256 ![] bcast_S_S16x2048x16x8x256 (constant S_ .f32 0x3DB504F3#32)))
    (broadcastInDim S16x2048x16x8x256 ![0, 1, 2, 3, 4] bcast_S1x2048x16x8x256_S16x2048x16x8x256_0_1_2_3_4
      (broadcastInDim S1x2048x16x8x256 ![1, 2, 3, 4] bcast_S2048x16x8x256_S1x2048x16x8x256_1_2_3_4 (bias A0 A5)))

/-- The logits. -/
def logits (A0 : Vec Ideal S32x16 .f32) (A1 A2 : Vec Ideal S16x2048x2048 .f32) (A5 : Vec Ideal S16x512x256 .f32) : FVec Ideal S16x2048x16x8x256 .f32 :=
  select (attended (chosen A1 A2)) (rawLogits A0 A1 A2 A5)
    (broadcastInDim S16x2048x16x8x256 ![] bcast_S_S16x2048x16x8x256 (id (constant S_ .f32 0xFF800000#32)))

/-- The greatest logit of each query. -/
def peaks (L : FVec Ideal S16x2048x16x8x256 .f32) : FVec Ideal S16x2048x16 .f32 :=
  maximumf (broadcastInDim S16x2048x16 ![] bcast_S_S16x2048x16 (constant S_ .f32 0xFF800000#32))
    (Host.reduce FloatOps.maximumf L (constant S_ .f32 0xFF800000#32) reducesTo_S16x2048x16x8x256_S16x2048x16_d3_4 h_S_)

/-- The logits less the greatest. -/
def shifted (L : FVec Ideal S16x2048x16x8x256 .f32) : FVec Ideal S16x2048x16x8x256 .f32 :=
  subf L (broadcastInDim S16x2048x16x8x256 ![0, 1, 2, 3, 4] bcast_S16x2048x16x1x1_S16x2048x16x8x256_0_1_2_3_4
    (broadcastInDim S16x2048x16x1x1 ![0, 1, 2] bcast_S16x2048x16_S16x2048x16x1x1_0_1_2 (peaks L)))

/-- The sum of the exponentials. -/
def mass (S : FVec Ideal S16x2048x16x8x256 .f32) : FVec Ideal S16x2048x16 .f32 :=
  Host.reduceAdd (Host.exp S) (constant S_ .f32 0x00000000#32) reducesTo_S16x2048x16x8x256_S16x2048x16_d3_4 h_S_

/-- The weights of the keys. -/
def weights (S : FVec Ideal S16x2048x16x8x256 .f32) : FVec Ideal S16x2048x16x8x256 .f32 :=
  Host.exp (subf S (broadcastInDim S16x2048x16x8x256 ![0, 1, 2, 3, 4] bcast_S16x2048x16x1x1_S16x2048x16x8x256_0_1_2_3_4
    (Host.log (broadcastInDim S16x2048x16x1x1 ![0, 1, 2] bcast_S16x2048x16_S16x2048x16x1x1_0_1_2 (mass S)))))

/-- The weighted values behind the gate. -/
def gatedSum (W : FVec Ideal S16x2048x16x8x256 .f32) (A3 A4 : Vec Ideal S16x2048x2048 .f32) : FVec Ideal S16x2048x2048 .bf16 :=
  truncf .bf16 (mulf
    (Host.divf (broadcastInDim S16x2048x2048 ![] bcast_S_S16x2048x2048 (constant S_ .f32 0x3F800000#32))
      (addf (broadcastInDim S16x2048x2048 ![] bcast_S_S16x2048x2048 (constant S_ .f32 0x3F800000#32)) (Host.exp (Host.negf (A4 : FVec Ideal S16x2048x2048 .f32)))))
    (shapeCast S16x2048x2048 (transpose S16x2048x16x128 [0, 3, 1, 2]
        (Host.dotGeneral dot_S16x8x256x16x128_S16x2048x16x8x256_S16x16x128x2048_21_43_4_1_03_02 none (blocks A3) W)
        transposes_S16x16x128x2048_S16x2048x16x128_0_3_1_2) shapeCasts_S16x2048x16x128_S16x2048x2048)) bitsLt_bf16_f32

/-- The reference's result is made of these parts. -/
theorem result_eq (m : (ℓ : Loc nD τ sig) → Buf (Elt Ideal) ℓ) (c : Dev nD) :
    Value.res_main_v100 m c
      = gatedSum (weights (shifted (logits (m ((c.tc : Thread nD τ).loc main_arg0)) (m ((c.tc : Thread nD τ).loc main_arg1)) (m ((c.tc : Thread nD τ).loc main_arg2))
          (m ((c.tc : Thread nD τ).loc main_arg5))))) (m ((c.tc : Thread nD τ).loc main_arg3)) (m ((c.tc : Thread nD τ).loc main_arg4)) := rfl

end Cert.Moba.Plain

end
-- ==== Proof.RefPoint.lean ====
/-
  The reference's parts read at an index over the extended reals.
-/
module

public import proofs.«01_k».proof.Proof.RefTerms

@[expose] public section

set_option maxRecDepth 100000

noncomputable section

namespace Cert.Moba.Plain

open Cert.ReferenceIdeal Cert.ReferenceIdeal.Gen Idealize.ShloMosaic Idealize.ShloMosaic.TcCoe Idealize.SL.Sem Idealize.ShloMosaic.StableHlo

/-! ## Two axes reduced at once -/

theorem drop_iff {n0 n1 n2 n3 n4 : ℕ} (hr : (⟨5, ![n0, n1, n2, n3, n4]⟩ : Shape).ReducesTo [3, 4] ⟨3, ![n0, n1, n2]⟩) (b : Fin n0) (t : Fin n1) (h : Fin n2)
    (i : (⟨5, ![n0, n1, n2, n3, n4]⟩ : Shape).Idx) :
    hr.drop i = ix3 b t h ↔ ∃ a : Fin n3 × Fin n4, ix5 b t h a.1 a.2 = i := by
  constructor
  · intro e
    refine ⟨(i 3, i 4), funext fun a => ?_⟩
    match a with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => rfl
    | ⟨4, _⟩ => rfl
  · rintro ⟨a, rfl⟩
    funext k
    match k with
    | ⟨0, _⟩ => rfl
    | ⟨1, _⟩ => rfl
    | ⟨2, _⟩ => rfl

theorem pair_injective {n0 n1 n2 n3 n4 : ℕ} (b : Fin n0) (t : Fin n1) (h : Fin n2) :
    Function.Injective fun a : Fin n3 × Fin n4 => (ix5 b t h a.1 a.2 : (⟨5, ![n0, n1, n2, n3, n4]⟩ : Shape).Idx) :=
  fun _ _ e => Prod.ext (congrFun e 3) (congrFun e 4)

/-! ## Words and literals -/

theorem word_inf : (Ideal.ofBits .f32 0xFF800000#32 : EReal) = ⊥ := by simp [Ideal.ofBits, Ideal.ieee]
theorem word_128 : (Ideal.ofBits .f32 0x43000000#32 : EReal) = ((128 : ℝ) : EReal) := by
  simp [Ideal.ofBits, Ideal.ieee]; rw [← EReal.coe_mul]; norm_num
theorem word_2 : (Ideal.ofBits .f32 0x40000000#32 : EReal) = ((2 : ℝ) : EReal) := by
  simp [Ideal.ofBits, Ideal.ieee]; rw [← EReal.coe_mul]; norm_num
theorem word_scale : (Ideal.ofBits .f32 0x3DB504F3#32 : EReal) = (scale : EReal) := by
  simp [Ideal.ofBits, Ideal.ieee, scale]; rw [← EReal.coe_mul]; norm_num

theorem select_iff {α : Type} {c : BitVec 1} {p : Prop} [Decidable p] (h : c = 1#1 ↔ p) (x y : α) : Scalar.select c x y = if p then x else y :=
  if_congr h rfl rfl

theorem headCol (h : Fin 16) (d : Fin 128) (p : h.val * 128 + d.val < 2048) (q : 128 * h.val + d.val < 2048) :
    (⟨h.val * 128 + d.val, p⟩ : Fin 2048) = ⟨128 * h.val + d.val, q⟩ := Fin.ext (by simp only; omega)

/-! ## The parts at an index -/

theorem own_apply (t : Fin 2048) : own (ix1 t) = BitVec.ofNat 32 (t.val / 256) := by
  pointwise [own]
  revert t; decide +kernel

theorem place_apply (t : Fin 2048) : place (ix1 t) = BitVec.ofNat 32 (t.val % 256) := by
  pointwise [place, divisor]
  revert t; decide +kernel

theorem heads_apply (A : Vec Ideal S16x2048x2048 .f32) (b : Fin 16) (t : Fin 2048) (h : Fin 16) (d : Fin 128) :
    heads A (ix4 b t h d) = headRows A b h t d := by
  pointwise [heads]
  rw [headCol h d _ (by omega)]
  rfl

theorem blocks_apply (A : Vec Ideal S16x2048x2048 .f32) (b : Fin 16) (n : Fin 8) (l : Fin 256) (h : Fin 16) (d : Fin 128) :
    blocks A (ix5 b n l h d) = headRows A b h (row n l) d := by
  pointwise [blocks]
  rw [heads_apply]
  exact congrArg (fun p => headRows A b h p d) (Fin.ext (by simp only [row]; omega))

theorem pageMeans_apply (A2 : Vec Ideal S16x2048x2048 .f32) (b : Fin 16) (p : Fin 14) (h : Fin 16) (d : Fin 128) :
    pageMeans A2 (ix4 b p h d) = (∑ r : Fin 128, headRows A2 b h ⟨128 * p.val + r.val, by omega⟩ d) * ((1 / 128 : ℝ) : EReal) := by
  pointwise [pageMeans]
  rw [word_128, Ideal.div_coe (by norm_num)]
  congr 1
  refine Finset.sum_congr rfl fun r _ => ?_
  rw [heads_apply]
  exact congrArg (fun p => headRows A2 b h p d) (Fin.ext (by simp only; omega))

theorem means_apply (A2 : Vec Ideal S16x2048x2048 .f32) (b : Fin 16) (n : Fin 7) (h : Fin 16) (d : Fin 128) :
    means A2 (ix4 b n h d) = blockMean (headRows A2 b h) n.castSucc d := by
  pointwise [means]
  rw [word_2, Ideal.div_coe (by norm_num), Fin.sum_univ_two, pageMeans_apply, pageMeans_apply]
  unfold blockMean
  congr 3 <;> refine Finset.sum_congr rfl fun r _ => congrArg (fun p => headRows A2 b h p d) (Fin.ext ?_)
  · simp only [pageRow, Fin.val_castSucc, Fin.val_zero]; omega
  · simp only [pageRow, Fin.val_castSucc, Fin.val_one]; omega

theorem past_apply (t : Fin 2048) (n : Fin 7) : past (ix2 t n) = BitVec.ofBool (decide (n.val < t.val / 256)) := by
  pointwise [past]
  rw [own_apply, WordCmp.cmpi_slt_ofNat (by omega) (by omega)]

theorem scores_apply (A1 A2 : Vec Ideal S16x2048x2048 .f32) (b : Fin 16) (t : Fin 2048) (h : Fin 16) (n : Fin 7) :
    scores A1 A2 (ix4 b t h n) = score (headRows A1 b h) (headRows A2 b h) t n := by
  pointwise [scores]
  rw [past_apply]
  refine (select_iff (WordCmp.ofBool_decide_eq_one_iff _) _ _).trans ?_
  unfold score
  refine if_congr Iff.rfl (Finset.sum_congr rfl fun d _ => ?_) word_inf
  rw [means_apply, heads_apply]

/-- A stable sort of two arrays along the last of four axes, the second one read at an index. -/
theorem sort_last {n0 n1 n2 n3 : ℕ} {α β : Type} (cmp : α × β → α × β → BitVec 1) (x : (⟨4, ![n0, n1, n2, n3]⟩ : Shape).Idx → α)
    (y : (⟨4, ![n0, n1, n2, n3]⟩ : Shape).Idx → β) (b : Fin n0) (t : Fin n1) (h : Fin n2) (n : Fin n3) :
    (Host.sort2 ⟨4, ![n0, n1, n2, n3]⟩ 3 cmp x y).2 (ix4 b t h n)
      = y (ix4 b t h (sortedFrom (fun k k' : Fin n3 => cmp (x (ix4 b t h k), y (ix4 b t h k)) (x (ix4 b t h k'), y (ix4 b t h k')) == 1#1) n)) := by
  have h3 : 3 < (⟨4, ![n0, n1, n2, n3]⟩ : Shape).rank := (by decide : 3 < 4)
  have ha : ∀ k : Fin n3, Shape.Idx.along (s := ⟨4, ![n0, n1, n2, n3]⟩) (ix4 b t h n) ⟨3, h3⟩ k = ix4 b t h k := fun k => funext fun a => match a with
    | ⟨0, _⟩ => rfl
    | ⟨1, _⟩ => rfl
    | ⟨2, _⟩ => rfl
    | ⟨3, _⟩ => rfl
  unfold Host.sort2
  rw [dif_pos h3]
  refine (congrArg y (ha _)).trans ?_
  refine congrArg (fun f : Fin n3 → Fin n3 → Bool => y (ix4 b t h (sortedFrom f n))) (funext fun k => funext fun k' => ?_)
  exact congrArg₂ (fun i j => cmp (x i, y i) (x j, y j) == 1#1) (ha k) (ha k')

/-- Whether score `k` is above score `k'`. -/
def above (A1 A2 : Vec Ideal S16x2048x2048 .f32) (b : Fin 16) (t : Fin 2048) (h : Fin 16) (k k' : Fin 7) : Bool :=
  FloatOps.cmpfTotal (F := Ideal) (φ := .f32) .gt (scores A1 A2 (ix4 b t h k)) (scores A1 A2 (ix4 b t h k')) == 1#1

theorem above_iff (A1 A2 : Vec Ideal S16x2048x2048 .f32) (b : Fin 16) (t : Fin 2048) (h : Fin 16) (k k' : Fin 7) :
    above A1 A2 b t h k k' = true ↔ score (headRows A1 b h) (headRows A2 b h) t k' < score (headRows A1 b h) (headRows A2 b h) t k := by
  unfold above
  rw [scores_apply, scores_apply, beq_iff_eq]
  exact WordCmp.ofBool_decide_eq_one_iff _

/-- The block of the `i`-th highest score. -/
def pick (A1 A2 : Vec Ideal S16x2048x2048 .f32) (b : Fin 16) (t : Fin 2048) (h : Fin 16) (i : Fin 3) : Fin 7 :=
  sortedFrom (above A1 A2 b t h) (i.castLE (by decide))

theorem sorted_apply (A1 A2 : Vec Ideal S16x2048x2048 .f32) (y : IVec S16x2048x16x7 32) (b : Fin 16) (t : Fin 2048) (h : Fin 16) (n : Fin 7) :
    (Host.sort2 S16x2048x16x7 3 (fun l r : Ideal .f32 × BitVec 32 => FloatOps.cmpfTotal (F := Ideal) (φ := .f32) .gt l.1 r.1) (scores A1 A2) y).2 (ix4 b t h n)
      = y (ix4 b t h (sortedFrom (above A1 A2 b t h) n)) := by
  unfold above
  exact sort_last _ (scores A1 A2) y b t h n

theorem picks_apply (A1 A2 : Vec Ideal S16x2048x2048 .f32) (b : Fin 16) (t : Fin 2048) (h : Fin 16) (i : Fin 3) :
    picks A1 A2 (ix4 b t h i) = BitVec.ofNat 32 (pick A1 A2 b t h i).val := by
  have e : ∀ j : S16x2048x16x7.Idx, j = ix4 b t h (i.castLE (by decide)) →
      (Host.sort2 S16x2048x16x7 3 (fun l r : Ideal .f32 × BitVec 32 => FloatOps.cmpfTotal (F := Ideal) (φ := .f32) .gt l.1 r.1) (scores A1 A2)
        (fun i => if hd : 3 < S16x2048x16x7.rank then iotaInDim S16x2048x16x7 32 ⟨3, hd⟩ i else 0#32)).2 j
        = BitVec.ofNat 32 (pick A1 A2 b t h i).val := by
    rintro _ rfl
    rw [sorted_apply, dif_pos (by decide)]
    rfl
  unfold picks Host.topK
  refine (e _ ?_)
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

theorem exists_pick_iff (A1 A2 : Vec Ideal S16x2048x2048 .f32) (b : Fin 16) (t : Fin 2048) (h : Fin 16) (m : Fin 7) :
    (∃ i, pick A1 A2 b t h i = m) ↔ rank (score (headRows A1 b h) (headRows A2 b h) t) m < 3 := by
  rw [← exists_sortedFrom_iff _ _ (above_iff A1 A2 b t h) 3 m]
  constructor
  · rintro ⟨i, rfl⟩; exact ⟨i.castLE (by decide), i.isLt, rfl⟩
  · rintro ⟨i, hi, rfl⟩; exact ⟨⟨i.val, hi⟩, rfl⟩

theorem isPick_iff (P : IVec S16x2048x16x3 32) (b : Fin 16) (t : Fin 2048) (h : Fin 16) (i : Fin 3) (n : Fin 8) (k : Fin 7)
    (hP : P (ix4 b t h i) = BitVec.ofNat 32 k.val) :
    isPick P (ix5 b t h i n) = 1#1 ↔ k.castSucc = n ∧ k.val < t.val / 256 := by
  pointwise [isPick]
  rw [hP, own_apply, WordCmp.cmpi_slt_ofNat (by omega) (by omega), WordCmp.cmpi_eq_ofNat (by omega) (by omega), WordCmp.andi_ofBool,
    WordCmp.ofBool_eq_one_iff, Bool.and_eq_true, decide_eq_true_iff, decide_eq_true_iff, Fin.ext_iff, Fin.val_castSucc]

theorem isPick_picks (A1 A2 : Vec Ideal S16x2048x2048 .f32) (b : Fin 16) (t : Fin 2048) (h : Fin 16) (i : Fin 3) (n : Fin 8) :
    isPick (picks A1 A2) (ix5 b t h i n) = 1#1 ↔ (pick A1 A2 b t h i).castSucc = n ∧ (pick A1 A2 b t h i).castSucc.val < t.val / 256 := by
  have e := picks_apply A1 A2 b t h i
  generalize picks A1 A2 = P at e ⊢
  generalize pick A1 A2 b t h i = k at e ⊢
  exact isPick_iff P b t h i n k e

theorem chosen_iff (A1 A2 : Vec Ideal S16x2048x2048 .f32) (b : Fin 16) (t : Fin 2048) (h : Fin 16) (n : Fin 8) :
    chosen A1 A2 (ix4 b t h n) = 1#1 ↔ Chosen (headRows A1 b h) (headRows A2 b h) t n := by
  pointwise [chosen]
  rw [Routing.fold_ori]
  unfold Chosen
  simp only [← exists_pick_iff A1 A2 b t h]
  constructor
  · rintro ⟨i, -, hi⟩
    rw [isPick_picks] at hi
    exact ⟨hi.1 ▸ hi.2, _, hi.1, i, rfl⟩
  · rintro ⟨hk, m, e, i, rfl⟩
    refine ⟨i, Finset.mem_univ _, ?_⟩
    rw [isPick_picks]
    exact ⟨e, e ▸ hk⟩

open Classical in
theorem attended_iff (A1 A2 : Vec Ideal S16x2048x2048 .f32) (b : Fin 16) (t : Fin 2048) (h : Fin 16) (n : Fin 8) (l : Fin 256) :
    attended (chosen A1 A2) (ix5 b t h n l) = 1#1 ↔ Attended (headRows A1 b h) (headRows A2 b h) t n l := by
  pointwise [attended, causal, isOwn]
  rw [own_apply, place_apply, WordCmp.cmpi_eq_ofNat (by omega) (by omega), WordCmp.cmpi_sle_ofNat (by omega) (by omega)]
  rw [select_iff (WordCmp.ofBool_decide_eq_one_iff _)]
  unfold Attended
  by_cases hn : n.val = t.val / 256
  · rw [if_pos hn.symm, if_pos hn]; exact WordCmp.ofBool_decide_eq_one_iff _
  · rw [if_neg (fun e => hn e.symm), if_neg hn]; exact chosen_iff A1 A2 b t h n

theorem places_apply (A5 : Vec Ideal S16x512x256 .f32) (t : Fin 2048) (h : Fin 16) (k : Fin 2) (l : Fin 256) :
    places A5 (ix4 t h k l) = A5 (ix3 h ⟨256 * k.val + l.val, by omega⟩ ⟨t.val % 256, by omega⟩) := by
  pointwise [places]
  exact congrArg A5 (congrArg (fun p => ix3 h p _) (Fin.ext (by simp only; omega)))

theorem back_iff (t : Fin 2048) (n : Fin 8) (k : ℕ) (hk : k < 2) :
    IntOp.cmpi .eq (IntOp.subi (BitVec.ofNat 32 (t.val / 256)) (BitVec.ofNat 32 n.val)) (BitVec.ofNat 32 k) = 1#1 ↔ n.val + k = t.val / 256 := by
  have ht : t.val / 256 < 8 := by omega
  generalize t.val / 256 = q at ht
  obtain ⟨n, hn⟩ := n
  revert k q n
  decide +kernel

theorem bias_apply (A0 : Vec Ideal S32x16 .f32) (A5 : Vec Ideal S16x512x256 .f32) (t : Fin 2048) (h : Fin 16) (n : Fin 8) (l : Fin 256) :
    bias A0 A5 (ix4 t h n l) = pairBias (fun p r => A5 (ix3 h p r)) (A0 (ix2 31 h)) t n l := by
  pointwise [bias, back]
  rw [own_apply, places_apply, places_apply]
  rw [select_iff (back_iff t n 0 (by decide)), select_iff (back_iff t n 1 (by decide))]
  unfold pairBias
  refine if_congr Iff.rfl ?_ (if_congr Iff.rfl ?_ rfl)
  · exact congrArg (fun p => A5 (ix3 h p _)) (Fin.ext (by simp only [Fin.val_zero] <;> omega))
  · exact congrArg (fun p => A5 (ix3 h p _)) (Fin.ext (by simp only [Fin.val_one] <;> omega))

theorem rawLogits_apply (A0 : Vec Ideal S32x16 .f32) (A1 A2 : Vec Ideal S16x2048x2048 .f32) (A5 : Vec Ideal S16x512x256 .f32) (b : Fin 16) (t : Fin 2048) (h : Fin 16) (n : Fin 8) (l : Fin 256) :
    rawLogits A0 A1 A2 A5 (ix5 b t h n l)
      = (∑ d : Fin 128, headRows A2 b h (row n l) d * headRows A1 b h t d) * (scale : EReal)
        + pairBias (fun p r => A5 (ix3 h p r)) (A0 (ix2 31 h)) t n l := by
  pointwise [rawLogits]
  rw [word_scale, bias_apply]
  simp only [blocks_apply, heads_apply]

theorem logits_apply (A0 : Vec Ideal S32x16 .f32) (A1 A2 : Vec Ideal S16x2048x2048 .f32) (A5 : Vec Ideal S16x512x256 .f32) (b : Fin 16) (t : Fin 2048) (h : Fin 16) (n : Fin 8) (l : Fin 256) :
    logits A0 A1 A2 A5 (ix5 b t h n l)
      = attnLogit (headRows A1 b h) (headRows A2 b h) (fun p r => A5 (ix3 h p r)) (A0 (ix2 31 h)) t (n, l) := by
  classical
  pointwise [logits]
  refine (select_iff (attended_iff A1 A2 b t h n l) _ _).trans ?_
  unfold attnLogit
  exact if_congr Iff.rfl (rawLogits_apply A0 A1 A2 A5 b t h n l) word_inf

theorem reduceMax_apply {n0 n1 n2 n3 n4 : ℕ} {u : Shape} (hr : (⟨5, ![n0, n1, n2, n3, n4]⟩ : Shape).ReducesTo [3, 4] ⟨3, ![n0, n1, n2]⟩) (hu : 0 < u.numel)
    (L : FVec Ideal ⟨5, ![n0, n1, n2, n3, n4]⟩ .f32) (init : FVec Ideal u .f32) (hi : init (Shape.Idx.first hu) = (⊥ : EReal)) (b : Fin n0) (t : Fin n1) (h : Fin n2) :
    Host.reduce FloatOps.maximumf L init hr hu (ix3 b t h) = Finset.univ.sup fun a : Fin n3 × Fin n4 => (L (ix5 b t h a.1 a.2) : EReal) := by
  refine (Host.reduce_eq_fold (max : EReal → EReal → EReal) L init hr hu (ix3 b t h)).trans ?_
  rw [hi]
  exact Finset.fold_filter_eq_fold_of_fiber (max : EReal → EReal → EReal) _ _ (pair_injective b t h) (drop_iff hr b t h) _ L

theorem maxInf_apply {s : Shape} (hb : S_.BroadcastsInDim s (![] : Fin 0 → Fin s.rank)) (M : FVec Ideal s .f32) (j : s.Idx) :
    maximumf (broadcastInDim s ![] hb (constant S_ .f32 0xFF800000#32)) M j = M j := by
  show max (Ideal.ofBits .f32 0xFF800000#32 : EReal) (M j) = M j
  rw [word_inf, max_eq_right bot_le]

theorem reduceSum_apply {n0 n1 n2 n3 n4 : ℕ} (hr : (⟨5, ![n0, n1, n2, n3, n4]⟩ : Shape).ReducesTo [3, 4] ⟨3, ![n0, n1, n2]⟩)
    (L : (⟨5, ![n0, n1, n2, n3, n4]⟩ : Shape).Idx → EReal) (b : Fin n0) (t : Fin n1) (h : Fin n2) :
    Ideal.hostReduceAdd hr L 0 (ix3 b t h) = ∑ a : Fin n3 × Fin n4, L (ix5 b t h a.1 a.2) :=
  (zero_add _).trans (Finset.sum_filter_eq_sum_of_fiber _ _ (pair_injective b t h) (drop_iff hr b t h) L)

theorem peaks_apply (L : FVec Ideal S16x2048x16x8x256 .f32) (b : Fin 16) (t : Fin 2048) (h : Fin 16) :
    peaks L (ix3 b t h) = Finset.univ.sup fun a : Fin 8 × Fin 256 => (L (ix5 b t h a.1 a.2) : EReal) := by
  unfold peaks
  rw [maxInf_apply]
  exact reduceMax_apply _ _ L _ word_inf b t h

theorem shifted_apply (L : FVec Ideal S16x2048x16x8x256 .f32) (b : Fin 16) (t : Fin 2048) (h : Fin 16) (n : Fin 8) (l : Fin 256) :
    shifted L (ix5 b t h n l) = L (ix5 b t h n l) - peaks L (ix3 b t h) := by
  pointwise [shifted]

theorem mass_apply (S : FVec Ideal S16x2048x16x8x256 .f32) (b : Fin 16) (t : Fin 2048) (h : Fin 16) :
    mass S (ix3 b t h) = ∑ a : Fin 8 × Fin 256, Ideal.exp (S (ix5 b t h a.1 a.2)) := by
  pointwise [mass]
  exact reduceSum_apply _ (Host.exp S) b t h

theorem weights_apply (S : FVec Ideal S16x2048x16x8x256 .f32) (b : Fin 16) (t : Fin 2048) (h : Fin 16) (n : Fin 8) (l : Fin 256) :
    weights S (ix5 b t h n l) = Ideal.exp (S (ix5 b t h n l) - Ideal.log (mass S (ix3 b t h))) := by
  pointwise [weights]

theorem gatedSum_apply (W : FVec Ideal S16x2048x16x8x256 .f32) (A3 A4 : Vec Ideal S16x2048x2048 .f32) (b : Fin 16) (t : Fin 2048) (h : Fin 16) (d : Fin 128) :
    gatedSum W A3 A4 (ix3 b t ⟨128 * h.val + d.val, by omega⟩)
      = Ideal.div 1 (1 + Ideal.exp (- headRows A4 b h t d))
        * ∑ a : Fin 8 × Fin 256, headRows A3 b h (row a.1 a.2) d * W (ix5 b t h a.1 a.2) := by
  pointwise [gatedSum]
  simp only [blocks_apply]
  rw [Finset.sum_comm, ← Fintype.sum_prod_type']
  rfl

/-! ## The result -/

theorem result_apply (A0 : Vec Ideal S32x16 .f32) (A1 A2 A3 A4 : Vec Ideal S16x2048x2048 .f32) (A5 : Vec Ideal S16x512x256 .f32)
    (b : Fin 16) (t : Fin 2048) (h : Fin 16) (d : Fin 128) :
    gatedSum (weights (shifted (logits A0 A1 A2 A5))) A3 A4 (ix3 b t ⟨128 * h.val + d.val, by omega⟩)
      = attnOut (headRows A1 b h) (headRows A2 b h) (headRows A3 b h) (headRows A4 b h) (fun q r => A5 (ix3 h q r)) (A0 (ix2 31 h)) t d := by
  rw [gatedSum_apply]
  unfold attnOut
  simp only [weights_apply, mass_apply, shifted_apply, peaks_apply, logits_apply]

theorem result_eq_gatedAttention (A0 : Vec Ideal S32x16 .f32) (A1 A2 A3 A4 : Vec Ideal S16x2048x2048 .f32) (A5 : Vec Ideal S16x512x256 .f32) :
    gatedSum (weights (shifted (logits A0 A1 A2 A5))) A3 A4 = gatedAttention A0 A1 A2 A3 A4 A5 := by
  funext y
  have h2 : (y 2).val < 2048 := (y 2).isLt
  obtain ⟨b, t, h, d, e⟩ : ∃ (b : Fin 16) (t : Fin 2048) (h : Fin 16) (d : Fin 128), y = (ix3 b t ⟨128 * h.val + d.val, by omega⟩ : S16x2048x2048.Idx) :=
    ⟨y 0, y 1, ⟨(y 2).val / 128, by omega⟩, ⟨(y 2).val % 128, by omega⟩, funext fun a => match a with
      | ⟨0, _⟩ => rfl
      | ⟨1, _⟩ => rfl
      | ⟨2, _⟩ => Fin.ext (Nat.div_add_mod _ _).symm⟩
  rw [e, result_apply]
  exact (gatedAttention_apply A0 A1 A2 A3 A4 A5 b h t d _).symm

end Cert.Moba.Plain

end
-- ==== Proof.NormSpec.lean ====
/-
  A row normalised by its root mean square and projected: the function that both the kernel and the reference compute.
-/
module

public import Idealize.ShloMosaic.PureOps.Ideal
public import Idealize.ShloMosaic.Lib.Pointwise

@[expose] public section

noncomputable section

namespace Cert.NormProj

open Idealize.ShloMosaic

/-- Entry `k` of the row `x` over its root mean square, times the gain `g`. The mean is over 2048 entries, and the mean of
    squares has the word of `1e-6` added to it. -/
def rowNorm (x g : Fin 2048 → EReal) (k : Fin 2048) : EReal :=
  x k * Ideal.rsqrt (Ideal.div (∑ j, x j * x j) (Ideal.ofBits FTy.f32 0x45000000#32) + Ideal.ofBits FTy.f32 0x358637BD#32) * g k

/-- The normalised row times one column of weights. -/
def rowOut (x g w : Fin 2048 → EReal) : EReal := ∑ k, rowNorm x g k * w k

theorem rowNorm_congr {x x' g g' : Fin 2048 → EReal} (hx : x = x') (hg : g = g') (k : Fin 2048) : rowNorm x g k = rowNorm x' g' k := by
  rw [hx, hg]

theorem rowOut_congr {x x' g g' w w' : Fin 2048 → EReal} (hx : x = x') (hg : g = g') (hw : w = w') :
    rowOut x g w = rowOut x' g' w' := by
  rw [hx, hg, hw]

/-- Columns `q * n` to `q * n + n` of the projection of the normalised rows, as an array of `r` rows. -/
def projected {r n : ℕ} (x : Fin r → Fin 2048 → EReal) (g : Fin 2048 → EReal) {W : ℕ} (w : Fin 2048 → Fin W → EReal) (q : ℕ)
    (hq : q * n + n ≤ W) : (⟨2, ![r, n]⟩ : Shape).Idx → EReal := fun y =>
  rowOut (x (y 0)) g fun k => w k ⟨q * n + (y 1 : Fin n).val, Nat.lt_of_lt_of_le (Nat.add_lt_add_left (y 1 : Fin n).isLt _) hq⟩

theorem projected_apply {r n : ℕ} (x : Fin r → Fin 2048 → EReal) (g : Fin 2048 → EReal) {W : ℕ} (w : Fin 2048 → Fin W → EReal) (q : ℕ)
    (hq : q * n + n ≤ W) (a : Fin r) (b : Fin n) (j : Fin W) (hj : j.val = q * n + b.val) :
    projected x g w q hq (ix2 a b) = rowOut (x a) g fun k => w k j := by
  have e : j = ⟨q * n + b.val, Nat.lt_of_lt_of_le (Nat.add_lt_add_left b.isLt _) hq⟩ := Fin.ext hj
  rw [e]; rfl

end Cert.NormProj

end
-- ==== Proof.NormKernel.lean ====
/-
  The six arrays that the kernel's projection of the prompt leaves.
-/
module

public import proofs.«01_k».proof.Proof.Gen.ProjectionIdeal.Value
public import proofs.«01_k».proof.Proof.NormSpec
public import Idealize.ShloMosaic.Lib.Pipeline.ValueKit
public import Idealize.ShloMosaic.Lib.Pipeline.ReadBack

@[expose] public section

set_option maxRecDepth 1000000

noncomputable section

namespace Cert.NormProj

open Cert.ProjectionIdeal Cert.ProjectionIdeal.Gen Idealize.ShloMosaic Idealize.ShloMosaic.TcCoe Idealize.SL.Sem
open Idealize.ShloMosaic.Pipeline (Dat)

/-! ## The stored expressions, read at a place -/

theorem pay2_apply (x : Vec Ideal S512x2048 .f32) (g : Vec Ideal S1x2048 .f32) (r : Fin 512) (k : Fin 2048) :
    k0_pay2 x g (ix2 r k) = rowNorm (fun k => x (ix2 r k)) (fun k => g (ix2 0 k)) k := by
  unfold rowNorm
  pointwise [k0_pay2]

/-- One block of rows times one block of columns. -/
theorem pay3_apply (h : Vec Ideal S512x2048 .bf16) (w : Vec Ideal S2048x256 .bf16) (r : Fin 512) (j : Fin 256) :
    k0_pay3 h w (ix2 r j) = ∑ k : Fin 2048, (h (ix2 r k) : EReal) * (w (ix2 k j) : EReal) := by
  pointwise [k0_pay3]

theorem pay3_pay2_apply (x : Vec Ideal S512x2048 .f32) (g : Vec Ideal S1x2048 .f32) (w : Vec Ideal S2048x256 .bf16) (r : Fin 512) (j : Fin 256) :
    k0_pay3 (k0_pay2 x g) w (ix2 r j) = rowOut (fun k => x (ix2 r k)) (fun k => g (ix2 0 k)) (fun k => w (ix2 k j)) := by
  rw [pay3_apply]
  unfold rowOut
  simp only [pay2_apply]

/-! ## The rows kept between points -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![0, 0 + (grid0.coords t 1).val] := by decide +kernel
theorem index3 : ∀ t : Fin cfg0.N, win0_3.index t = ![0, 8 + (grid0.coords t 1).val] := by decide +kernel
theorem index4 : ∀ t : Fin cfg0.N, win0_4.index t = ![0, 16 + (grid0.coords t 1).val] := by decide +kernel
theorem index5 : ∀ t : Fin cfg0.N, win0_5.index t = ![0, 24 + (grid0.coords t 1).val] := by decide +kernel
theorem index6 : ∀ t : Fin cfg0.N, win0_6.index t = ![0, 32 + (grid0.coords t 1).val] := by decide +kernel
theorem index7 : ∀ t : Fin cfg0.N, win0_7.index t = ![0, 40 + (grid0.coords t 1).val] := by decide +kernel
theorem index8 : ∀ t : Fin cfg0.N, win0_8.index t = ![(grid0.coords t 0).val, (grid0.coords t 1).val] := by decide +kernel
theorem index9 : ∀ t : Fin cfg0.N, win0_9.index t = ![(grid0.coords t 0).val, (grid0.coords t 1).val] := by decide +kernel
theorem index10 : ∀ t : Fin cfg0.N, win0_10.index t = ![(grid0.coords t 0).val, (grid0.coords t 1).val] := by decide +kernel
theorem index11 : ∀ t : Fin cfg0.N, win0_11.index t = ![(grid0.coords t 0).val, (grid0.coords t 1).val] := by decide +kernel
theorem index12 : ∀ t : Fin cfg0.N, win0_12.index t = ![(grid0.coords t 0).val, (grid0.coords t 1).val] := by decide +kernel
theorem index13 : ∀ t : Fin cfg0.N, win0_13.index t = ![(grid0.coords t 0).val, (grid0.coords t 1).val] := by decide +kernel

/-- Within a run of eight points the block of rows stays. -/
theorem coords_pred : ∀ t : Fin cfg0.N, ¬t.val % 8 = 0 → ∀ h, grid0.coords ⟨t.val - 1, h⟩ 0 = grid0.coords t 0 := by decide +kernel

variable (m : (ℓ : Loc nD τ sig) → Buf (Elt Ideal) ℓ) (ρ : Dev nD → PrngReg)

/-- The prompt's rows. -/
def rowsOf (x : Vec Ideal S16x2048x2048 .f32) : Vec Ideal S32768x2048 .f32 := shapeCast _ x shapeCasts_S16x2048x2048_S32768x2048

theorem V_rows (c : Dev nD) : V m c main_v2 = rowsOf (m ((c.tc : Thread nD τ).loc main_arg0)) := by
  unfold V
  after_results
  rfl

theorem V_gain (c : Dev nD) (k : Fin 2048) :
    V m c main_v4 (ix2 0 k : S1x2048.Idx) = m ((c.tc : Thread nD τ).loc main_arg1) (ix2 0 k : S1x2048.Idx) := by
  unfold V
  after_results
  pointwise

theorem V_weights (c : Dev nD) (k : Fin 2048) (j : Fin 12288) :
    V m c main_v1 (ix2 k j : S2048x12288.Idx) = m ((c.tc : Thread nD τ).loc main_arg2) (ix3 0 k j : S1x2048x12288.Idx) := by
  unfold V
  after_results
  pointwise

theorem rows_block (c : Dev nD) (t : Fin cfg0.N) (r : Fin 512) (k : Fin 2048) (r' : Fin 32768) (hr : r'.val = (grid0.coords t 0).val * 512 + r.val) :
    iblk m c 0 t (ix2 r k : S512x2048.Idx) = rowsOf (m ((c.tc : Thread nD τ).loc main_arg0)) (ix2 r' k : S32768x2048.Idx) := by
  rw [← V_rows m c]
  blk_ext [iblk, index0 t]

theorem gain_block (c : Dev nD) (t : Fin cfg0.N) (k : Fin 2048) :
    iblk m c 1 t (ix2 0 k : S1x2048.Idx) = m ((c.tc : Thread nD τ).loc main_arg1) (ix2 0 k : S1x2048.Idx) := by
  rw [← V_gain m c]
  blk_ext [iblk, index1 t]

theorem weights_block2 (c : Dev nD) (t : Fin cfg0.N) (k : Fin 2048) (j : Fin 256) (j' : Fin 12288) (hj : j'.val = (0 + (grid0.coords t 1).val) * 256 + j.val) :
    iblk m c 2 t (ix2 k j : S2048x256.Idx) = m ((c.tc : Thread nD τ).loc main_arg2) (ix3 0 k j' : S1x2048x12288.Idx) := by
  rw [← V_weights m c]
  blk_ext [iblk, index2 t]

theorem weights_block3 (c : Dev nD) (t : Fin cfg0.N) (k : Fin 2048) (j : Fin 256) (j' : Fin 12288) (hj : j'.val = (8 + (grid0.coords t 1).val) * 256 + j.val) :
    iblk m c 3 t (ix2 k j : S2048x256.Idx) = m ((c.tc : Thread nD τ).loc main_arg2) (ix3 0 k j' : S1x2048x12288.Idx) := by
  rw [← V_weights m c]
  blk_ext [iblk, index3 t]

theorem weights_block4 (c : Dev nD) (t : Fin cfg0.N) (k : Fin 2048) (j : Fin 256) (j' : Fin 12288) (hj : j'.val = (16 + (grid0.coords t 1).val) * 256 + j.val) :
    iblk m c 4 t (ix2 k j : S2048x256.Idx) = m ((c.tc : Thread nD τ).loc main_arg2) (ix3 0 k j' : S1x2048x12288.Idx) := by
  rw [← V_weights m c]
  blk_ext [iblk, index4 t]

theorem weights_block5 (c : Dev nD) (t : Fin cfg0.N) (k : Fin 2048) (j : Fin 256) (j' : Fin 12288) (hj : j'.val = (24 + (grid0.coords t 1).val) * 256 + j.val) :
    iblk m c 5 t (ix2 k j : S2048x256.Idx) = m ((c.tc : Thread nD τ).loc main_arg2) (ix3 0 k j' : S1x2048x12288.Idx) := by
  rw [← V_weights m c]
  blk_ext [iblk, index5 t]

theorem weights_block6 (c : Dev nD) (t : Fin cfg0.N) (k : Fin 2048) (j : Fin 256) (j' : Fin 12288) (hj : j'.val = (32 + (grid0.coords t 1).val) * 256 + j.val) :
    iblk m c 6 t (ix2 k j : S2048x256.Idx) = m ((c.tc : Thread nD τ).loc main_arg2) (ix3 0 k j' : S1x2048x12288.Idx) := by
  rw [← V_weights m c]
  blk_ext [iblk, index6 t]

theorem weights_block7 (c : Dev nD) (t : Fin cfg0.N) (k : Fin 2048) (j : Fin 256) (j' : Fin 12288) (hj : j'.val = (40 + (grid0.coords t 1).val) * 256 + j.val) :
    iblk m c 7 t (ix2 k j : S2048x256.Idx) = m ((c.tc : Thread nD τ).loc main_arg2) (ix3 0 k j' : S1x2048x12288.Idx) := by
  rw [← V_weights m c]
  blk_ext [iblk, index7 t]

/-- What every point keeps: its block of normalised rows. -/
def kept (c : Dev nD) (t : Fin cfg0.N) : Vec Ideal S512x2048 .bf16 := k0_pay2 (iblk m c 0 t) (iblk m c 1 t)

theorem kept_apply (c : Dev nD) (t : Fin cfg0.N) (r : Fin 512) (k : Fin 2048) (r' : Fin 32768) (hr : r'.val = (grid0.coords t 0).val * 512 + r.val) :
    kept m c t (ix2 r k) = rowNorm (fun k => rowsOf (m ((c.tc : Thread nD τ).loc main_arg0)) (ix2 r' k)) (fun k => m ((c.tc : Thread nD τ).loc main_arg1) (ix2 0 k)) k := by
  unfold kept
  rw [pay2_apply]
  exact rowNorm_congr (funext fun k => rows_block m c t r k r' hr) (funext fun k => gain_block m c t k) k

/-- Within a run of eight points the kept rows do not change. -/
theorem kept_pred (c : Dev nD) (t : Fin cfg0.N) (h : ¬t.val % 8 = 0) (h') : kept m c ⟨t.val - 1, h'⟩ = kept m c t := by
  funext y
  obtain ⟨r, k, rfl⟩ : ∃ (r : Fin 512) (k : Fin 2048), y = (ix2 r k : S512x2048.Idx) :=
    ⟨y 0, y 1, funext fun a => match a with
      | ⟨0, _⟩ => rfl
      | ⟨1, _⟩ => rfl⟩
  have hi : (grid0.coords t 0).val < 64 := (grid0.coords t 0).isLt
  rw [kept_apply m c t r k ⟨(grid0.coords t 0).val * 512 + r.val, by omega⟩ rfl]
  exact kept_apply m c _ r k _ (by rw [coords_pred t h h'])

/-- What the seven buffers hold after a point. -/
def held (c : Dev nD) (t : Fin cfg0.N) :=
  (k0_pay3 (kept m c t) (iblk m c 2 t), k0_pay4 (kept m c t) (iblk m c 3 t), k0_pay5 (kept m c t) (iblk m c 4 t), k0_pay6 (kept m c t) (iblk m c 5 t), k0_pay7 (kept m c t) (iblk m c 6 t), k0_pay1 (kept m c t) (iblk m c 7 t), kept m c t)

theorem held_A (c : Dev nD) (t : Fin cfg0.N) (h : t.val % 8 = 0) : outsAt0 m c t.val t.isLt = held m c t := by
  rw [outsAt0_A m c t h]
  unfold held kept
  refine Prod.ext ?_ (Prod.ext ?_ (Prod.ext ?_ (Prod.ext ?_ (Prod.ext ?_ (Prod.ext ?_ ?_)))))
  all_goals frame_out

theorem held_B (c : Dev nD) (t : Fin cfg0.N) (h : ¬t.val % 8 = 0)
    (ih : (outsAt0 m c (t.val - 1) (Nat.lt_of_le_of_lt (Nat.sub_le _ _) t.isLt)).2.2.2.2.2.2 = kept m c t) : outsAt0 m c t.val t.isLt = held m c t := by
  rw [outsAt0_B m c t h, ih]
  unfold held
  frame_out
  simp only [read_unread_whole]
  rfl

theorem outs_eq (c : Dev nD) (n : ℕ) : ∀ h, outsAt0 m c n h = held m c ⟨n, h⟩ := by
  induction n with
  | zero => exact fun h => held_A m c ⟨0, h⟩ rfl
  | succ n ih =>
    intro h
    by_cases h0 : (n + 1) % 8 = 0
    · exact held_A m c ⟨n + 1, h⟩ h0
    · refine held_B m c ⟨n + 1, h⟩ h0 ?_
      refine (congrArg (·.2.2.2.2.2.2) (ih _)).trans ?_
      exact kept_pred m c ⟨n + 1, h⟩ h0 _

/-! ## The arrays -/

/-- Output `q`: that sixth of the columns. -/
def output (c : Dev nD) (q : ℕ) (hq : q * 2048 + 2048 ≤ 12288) : Vec Ideal S32768x2048 .f32 :=
  projected (fun r k => rowsOf (m ((c.tc : Thread nD τ).loc main_arg0)) (ix2 r k))
      (fun k => m ((c.tc : Thread nD τ).loc main_arg1) (ix2 0 k)) (fun k j => m ((c.tc : Thread nD τ).loc main_arg2) (ix3 0 k j)) q hq

/-- One point's block of output `q`, at its place in the array. -/
theorem point_eq (c : Dev nD) (t : Fin cfg0.N) (w : Vec Ideal S2048x256 .bf16) (q : ℕ) (hq : q * 2048 + 2048 ≤ 12288)
    (hw : ∀ (k : Fin 2048) (j : Fin 256) (j' : Fin 12288), j'.val = (8 * q + (grid0.coords t 1).val) * 256 + j.val →
      w (ix2 k j) = m ((c.tc : Thread nD τ).loc main_arg2) (ix3 0 k j' : S1x2048x12288.Idx))
    (y : S512x256.Idx) (z : S32768x2048.Idx) (h0 : (z 0).val = (grid0.coords t 0).val * 512 + (y 0).val)
    (h1 : (z 1).val = (grid0.coords t 1).val * 256 + (y 1).val) :
    k0_pay3 (kept m c t) w y = output m c q hq z := by
  unfold output
  obtain ⟨r, j, rfl⟩ : ∃ (r : Fin 512) (j : Fin 256), y = (ix2 r j : S512x256.Idx) :=
    ⟨y 0, y 1, funext fun a => match a with
      | ⟨0, _⟩ => rfl
      | ⟨1, _⟩ => rfl⟩
  obtain ⟨a, b, rfl⟩ : ∃ (a : Fin 32768) (b : Fin 2048), z = (ix2 a b : S32768x2048.Idx) :=
    ⟨z 0, z 1, funext fun a => match a with
      | ⟨0, _⟩ => rfl
      | ⟨1, _⟩ => rfl⟩
  have h0' : a.val = (grid0.coords t 0).val * 512 + r.val := h0
  have h1' : b.val = (grid0.coords t 1).val * 256 + j.val := h1
  rw [projected_apply _ _ _ q hq a b ⟨q * 2048 + b.val, by omega⟩ rfl, pay3_apply]
  refine Finset.sum_congr rfl fun k _ => congrArg₂ (· * ·) (kept_apply m c t r k a h0') (hw k j _ ?_)
  show q * 2048 + b.val = _
  omega

theorem array8 (c : Dev nD) : (dats m 0 c).arrAt 8 cfg0.N = output m c 0 (by decide) := by
  refine (dats m 0 c).arrAt_eq_of_covers 8 _ (by decide +kernel) fun t hf y => ?_
  blk_simp
  rw [after0_8, outs_eq]
  refine point_eq m c t (iblk m c 2 t) 0 (by decide) (weights_block2 m c t) y _ ?_ ?_ <;> blk_simp [index8 t]

theorem array9 (c : Dev nD) : (dats m 0 c).arrAt 9 cfg0.N = output m c 1 (by decide) := by
  refine (dats m 0 c).arrAt_eq_of_covers 9 _ (by decide +kernel) fun t hf y => ?_
  blk_simp
  rw [after0_9, outs_eq]
  refine point_eq m c t (iblk m c 3 t) 1 (by decide) (weights_block3 m c t) y _ ?_ ?_ <;> blk_simp [index9 t]

theorem array10 (c : Dev nD) : (dats m 0 c).arrAt 10 cfg0.N = output m c 2 (by decide) := by
  refine (dats m 0 c).arrAt_eq_of_covers 10 _ (by decide +kernel) fun t hf y => ?_
  blk_simp
  rw [after0_10, outs_eq]
  refine point_eq m c t (iblk m c 4 t) 2 (by decide) (weights_block4 m c t) y _ ?_ ?_ <;> blk_simp [index10 t]

theorem array11 (c : Dev nD) : (dats m 0 c).arrAt 11 cfg0.N = output m c 3 (by decide) := by
  refine (dats m 0 c).arrAt_eq_of_covers 11 _ (by decide +kernel) fun t hf y => ?_
  blk_simp
  rw [after0_11, outs_eq]
  refine point_eq m c t (iblk m c 5 t) 3 (by decide) (weights_block5 m c t) y _ ?_ ?_ <;> blk_simp [index11 t]

theorem array12 (c : Dev nD) : (dats m 0 c).arrAt 12 cfg0.N = output m c 4 (by decide) := by
  refine (dats m 0 c).arrAt_eq_of_covers 12 _ (by decide +kernel) fun t hf y => ?_
  blk_simp
  rw [after0_12, outs_eq]
  refine point_eq m c t (iblk m c 6 t) 4 (by decide) (weights_block6 m c t) y _ ?_ ?_ <;> blk_simp [index12 t]

theorem array13 (c : Dev nD) : (dats m 0 c).arrAt 13 cfg0.N = output m c 5 (by decide) := by
  refine (dats m 0 c).arrAt_eq_of_covers 13 _ (by decide +kernel) fun t hf y => ?_
  blk_simp
  rw [after0_13, outs_eq]
  refine point_eq m c t (iblk m c 7 t) 5 (by decide) (weights_block7 m c t) y _ ?_ ?_ <;> blk_simp [index13 t]

end Cert.NormProj

end
-- ==== Proof.NormRef.lean ====
/-
  The reference's projection of the prompt, read at every place.
-/
module

public import proofs.«01_k».proof.Proof.Gen.ProjectionReferenceIdeal
public import proofs.«01_k».proof.Proof.NormSpec
public import Idealize.ShloMosaic.Lib.Pipeline.ValueKit
public import Idealize.ShloMosaic.Lib.Pointwise

@[expose] public section

noncomputable section

namespace Cert.NormProj

open Cert.ProjectionReferenceIdeal Cert.ProjectionReferenceIdeal.Gen Idealize.ShloMosaic

variable (x : FVec Ideal S16x2048x2048 .f32) (g : FVec Ideal S1x2048 .f32) (w : FVec Ideal S1x2048x12288 .f32)

/-- The prompt's rows. -/
def refRows : FVec Ideal S32768x2048 .f32 := shapeCast _ x shapeCasts_S16x2048x2048_S32768x2048

/-- The rows over their root mean squares, times the gain. -/
def refNormed : FVec Ideal S32768x2048 .f32 :=
  mulf (mulf (refRows x) (broadcastInDim S32768x2048 ![0, 1] bcast_S32768x1_S32768x2048_0_1 (Host.rsqrt (addf (Host.divf (broadcastInDim S32768x1 ![0] bcast_S32768_S32768x1_0 (Host.reduceAdd (mulf (refRows x) (refRows x)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 (shapeCast _ g shapeCasts_S1x2048_S2048)))

/-- All columns of the projection. -/
def refAll : FVec Ideal S32768x12288 .f32 :=
  Host.dotGeneral dot_S32768x2048_S2048x12288_S32768x12288_1_0_0_1_n_n none (refNormed x g) (shapeCast _ w shapeCasts_S1x2048x12288_S2048x12288)

theorem refNormed_apply (r : Fin 32768) (k : Fin 2048) :
    refNormed x g (ix2 r k) = rowNorm (fun k => refRows x (ix2 r k)) (fun k => g (ix2 0 k)) k := by
  unfold rowNorm
  pointwise [refNormed]

theorem refAll_apply (r : Fin 32768) (j : Fin 12288) :
    refAll x g w (ix2 r j) = rowOut (fun k => refRows x (ix2 r k)) (fun k => g (ix2 0 k)) (fun k => w (ix3 0 k j)) := by
  unfold rowOut
  simp only [← refNormed_apply]
  pointwise [refAll]

/-- Sixth `q` of the columns. -/
theorem ref_piece (q : ℕ) (hq : q * 2048 + 2048 ≤ 12288) (h : S32768x12288.Slices ![0, q * 2048] S32768x2048) :
    extractStridedSlice S32768x2048 ![0, q * 2048] (refAll x g w) h
      = projected (fun r k => refRows x (ix2 r k)) (fun k => g (ix2 0 k)) (fun k j => w (ix3 0 k j)) q hq := by
  funext y
  obtain ⟨a, b, rfl⟩ : ∃ (a : Fin 32768) (b : Fin 2048), y = (ix2 a b : S32768x2048.Idx) :=
    ⟨y 0, y 1, funext fun a => match a with
      | ⟨0, _⟩ => rfl
      | ⟨1, _⟩ => rfl⟩
  refine Eq.trans ?_ (projected_apply _ _ _ q hq a b ⟨q * 2048 + b.val, by omega⟩ rfl).symm
  rw [← refAll_apply]
  unfold extractStridedSlice
  congr 1
  funext d
  match d with
  | ⟨0, _⟩ => exact Fin.ext (Nat.zero_add _)
  | ⟨1, _⟩ => rfl

end Cert.NormProj

end
-- ==== Proof.MemoryKernel.lean ====
/-
  The two arrays that the kernel's projection of the memory prompt leaves.
-/
module

public import proofs.«01_k».proof.Proof.Gen.MemoryIdeal.Value
public import proofs.«01_k».proof.Proof.NormSpec
public import Idealize.ShloMosaic.Lib.Pipeline.ValueKit
public import Idealize.ShloMosaic.Lib.Pipeline.ReadBack

@[expose] public section

set_option maxRecDepth 1000000

noncomputable section

namespace Cert.MemoryProj

open Cert.NormProj Cert.MemoryIdeal Cert.MemoryIdeal.Gen Idealize.ShloMosaic Idealize.ShloMosaic.TcCoe Idealize.SL.Sem
open Idealize.ShloMosaic.Pipeline (Dat)

/-! ## The stored expressions, read at a place -/

theorem pay1_apply (x : Vec Ideal S512x2048 .f32) (g : Vec Ideal S1x2048 .f32) (r : Fin 512) (k : Fin 2048) :
    k0_pay1 x g (ix2 r k) = rowNorm (fun k => x (ix2 r k)) (fun k => g (ix2 0 k)) k := by
  unfold rowNorm
  pointwise [k0_pay1]

/-- One block of rows times one block of columns. -/
theorem pay2_apply (h : Vec Ideal S512x2048 .bf16) (w : Vec Ideal S2048x256 .bf16) (r : Fin 512) (j : Fin 256) :
    k0_pay2 h w (ix2 r j) = ∑ k : Fin 2048, (h (ix2 r k) : EReal) * (w (ix2 k j) : EReal) := by
  pointwise [k0_pay2]

/-! ## What a point reads -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![0, 0 + (grid0.coords t 1).val] := by decide +kernel
theorem index3 : ∀ t : Fin cfg0.N, win0_3.index t = ![0, 2 + (grid0.coords t 1).val] := by decide +kernel
theorem index4 : ∀ t : Fin cfg0.N, win0_4.index t = ![(grid0.coords t 0).val, (grid0.coords t 1).val] := by decide +kernel
theorem index5 : ∀ t : Fin cfg0.N, win0_5.index t = ![(grid0.coords t 0).val, (grid0.coords t 1).val] := by decide +kernel

/-- Within a run of two points the block of rows stays. -/
theorem coords_pred : ∀ t : Fin cfg0.N, ¬t.val % 2 = 0 → ∀ h, grid0.coords ⟨t.val - 1, h⟩ 0 = grid0.coords t 0 := by decide +kernel

variable (m : (ℓ : Loc nD τ sig) → Buf (Elt Ideal) ℓ) (ρ : Dev nD → PrngReg)

/-- The memory prompt's rows. -/
def rowsOf (x : Vec Ideal S16x256x2048 .f32) : Vec Ideal S4096x2048 .f32 := shapeCast _ x shapeCasts_S16x256x2048_S4096x2048

theorem V_rows (c : Dev nD) : V m c main_v4 = rowsOf (m ((c.tc : Thread nD τ).loc main_arg0)) := by
  unfold V
  after_results
  rfl

theorem V_gain (c : Dev nD) (k : Fin 2048) :
    V m c main_v6 (ix2 0 k : S1x2048.Idx) = m ((c.tc : Thread nD τ).loc main_arg1) (ix2 0 k : S1x2048.Idx) := by
  unfold V
  after_results
  pointwise

/-- The left half of the joined weights is the keys'. -/
theorem V_keys (c : Dev nD) (k : Fin 2048) (j : Fin 512) :
    V m c main_v3 (ix2 k ⟨j.val, by omega⟩ : S2048x1024.Idx) = m ((c.tc : Thread nD τ).loc main_arg2) (ix3 0 k j : S1x2048x512.Idx) := by
  unfold V
  after_results
  pointwise

/-- The right half is the values'. -/
theorem V_values (c : Dev nD) (k : Fin 2048) (j : Fin 512) :
    V m c main_v3 (ix2 k ⟨512 + j.val, by omega⟩ : S2048x1024.Idx) = m ((c.tc : Thread nD τ).loc main_arg3) (ix3 0 k j : S1x2048x512.Idx) := by
  unfold V
  after_results
  pointwise

theorem rows_block (c : Dev nD) (t : Fin cfg0.N) (r : Fin 512) (k : Fin 2048) (r' : Fin 4096) (hr : r'.val = (grid0.coords t 0).val * 512 + r.val) :
    iblk m c 0 t (ix2 r k : S512x2048.Idx) = rowsOf (m ((c.tc : Thread nD τ).loc main_arg0)) (ix2 r' k : S4096x2048.Idx) := by
  rw [← V_rows m c]
  blk_ext [iblk, index0 t]

theorem gain_block (c : Dev nD) (t : Fin cfg0.N) (k : Fin 2048) :
    iblk m c 1 t (ix2 0 k : S1x2048.Idx) = m ((c.tc : Thread nD τ).loc main_arg1) (ix2 0 k : S1x2048.Idx) := by
  rw [← V_gain m c]
  blk_ext [iblk, index1 t]

theorem keys_block (c : Dev nD) (t : Fin cfg0.N) (k : Fin 2048) (j : Fin 256) (j' : Fin 512) (hj : j'.val = (grid0.coords t 1).val * 256 + j.val) :
    iblk m c 2 t (ix2 k j : S2048x256.Idx) = m ((c.tc : Thread nD τ).loc main_arg2) (ix3 0 k j' : S1x2048x512.Idx) := by
  rw [← V_keys m c]
  blk_ext [iblk, index2 t]

theorem values_block (c : Dev nD) (t : Fin cfg0.N) (k : Fin 2048) (j : Fin 256) (j' : Fin 512) (hj : j'.val = (grid0.coords t 1).val * 256 + j.val) :
    iblk m c 3 t (ix2 k j : S2048x256.Idx) = m ((c.tc : Thread nD τ).loc main_arg3) (ix3 0 k j' : S1x2048x512.Idx) := by
  rw [← V_values m c]
  blk_ext [iblk, index3 t]

/-! ## The rows kept between points -/

/-- What every point keeps: its block of normalised rows. -/
def kept (c : Dev nD) (t : Fin cfg0.N) : Vec Ideal S512x2048 .bf16 := k0_pay1 (iblk m c 0 t) (iblk m c 1 t)

theorem kept_apply (c : Dev nD) (t : Fin cfg0.N) (r : Fin 512) (k : Fin 2048) (r' : Fin 4096) (hr : r'.val = (grid0.coords t 0).val * 512 + r.val) :
    kept m c t (ix2 r k) = rowNorm (fun k => rowsOf (m ((c.tc : Thread nD τ).loc main_arg0)) (ix2 r' k)) (fun k => m ((c.tc : Thread nD τ).loc main_arg1) (ix2 0 k)) k := by
  unfold kept
  rw [pay1_apply]
  exact rowNorm_congr (funext fun k => rows_block m c t r k r' hr) (funext fun k => gain_block m c t k) k

/-- Within a run of two points the kept rows do not change. -/
theorem kept_pred (c : Dev nD) (t : Fin cfg0.N) (h : ¬t.val % 2 = 0) (h') : kept m c ⟨t.val - 1, h'⟩ = kept m c t := by
  funext y
  obtain ⟨r, k, rfl⟩ : ∃ (r : Fin 512) (k : Fin 2048), y = (ix2 r k : S512x2048.Idx) :=
    ⟨y 0, y 1, funext fun a => match a with
      | ⟨0, _⟩ => rfl
      | ⟨1, _⟩ => rfl⟩
  have hi : (grid0.coords t 0).val < 8 := (grid0.coords t 0).isLt
  rw [kept_apply m c t r k ⟨(grid0.coords t 0).val * 512 + r.val, by omega⟩ rfl]
  exact kept_apply m c _ r k _ (by rw [coords_pred t h h'])

/-- What the three buffers hold after a point. -/
def held (c : Dev nD) (t : Fin cfg0.N) :=
  (k0_pay2 (kept m c t) (iblk m c 2 t), k0_pay3 (kept m c t) (iblk m c 3 t), kept m c t)

theorem held_A (c : Dev nD) (t : Fin cfg0.N) (h : t.val % 2 = 0) : outsAt0 m c t.val t.isLt = held m c t := by
  rw [outsAt0_A m c t h]
  unfold held kept
  refine Prod.ext ?_ (Prod.ext ?_ ?_)
  all_goals frame_out

theorem held_B (c : Dev nD) (t : Fin cfg0.N) (h : ¬t.val % 2 = 0)
    (ih : (outsAt0 m c (t.val - 1) (Nat.lt_of_le_of_lt (Nat.sub_le _ _) t.isLt)).2.2 = kept m c t) : outsAt0 m c t.val t.isLt = held m c t := by
  rw [outsAt0_B m c t h, ih]
  unfold held
  frame_out
  simp only [read_unread_whole]
  rfl

theorem outs_eq (c : Dev nD) (n : ℕ) : ∀ h, outsAt0 m c n h = held m c ⟨n, h⟩ := by
  induction n with
  | zero => exact fun h => held_A m c ⟨0, h⟩ rfl
  | succ n ih =>
    intro h
    by_cases h0 : (n + 1) % 2 = 0
    · exact held_A m c ⟨n + 1, h⟩ h0
    · refine held_B m c ⟨n + 1, h⟩ h0 ?_
      refine (congrArg (·.2.2) (ih _)).trans ?_
      exact kept_pred m c ⟨n + 1, h⟩ h0 _

/-! ## The arrays -/

/-- The memory prompt's normalised rows times the weights `w`. -/
def output (c : Dev nD) (w : Vec Ideal S1x2048x512 .f32) : Vec Ideal S4096x512 .f32 :=
  projected (fun r k => rowsOf (m ((c.tc : Thread nD τ).loc main_arg0)) (ix2 r k))
      (fun k => m ((c.tc : Thread nD τ).loc main_arg1) (ix2 0 k)) (fun k j => w (ix3 0 k j)) 0 (by decide)

/-- One point's block of the output of weights `w`, at its place in the array. -/
theorem point_eq (c : Dev nD) (t : Fin cfg0.N) (b : Vec Ideal S2048x256 .bf16) (w : Vec Ideal S1x2048x512 .f32)
    (hw : ∀ (k : Fin 2048) (j : Fin 256) (j' : Fin 512), j'.val = (grid0.coords t 1).val * 256 + j.val → b (ix2 k j) = w (ix3 0 k j' : S1x2048x512.Idx))
    (y : S512x256.Idx) (z : S4096x512.Idx) (h0 : (z 0).val = (grid0.coords t 0).val * 512 + (y 0).val)
    (h1 : (z 1).val = (grid0.coords t 1).val * 256 + (y 1).val) :
    k0_pay2 (kept m c t) b y = output m c w z := by
  unfold output
  obtain ⟨r, j, rfl⟩ : ∃ (r : Fin 512) (j : Fin 256), y = (ix2 r j : S512x256.Idx) :=
    ⟨y 0, y 1, funext fun a => match a with
      | ⟨0, _⟩ => rfl
      | ⟨1, _⟩ => rfl⟩
  obtain ⟨a, d, rfl⟩ : ∃ (a : Fin 4096) (d : Fin 512), z = (ix2 a d : S4096x512.Idx) :=
    ⟨z 0, z 1, funext fun a => match a with
      | ⟨0, _⟩ => rfl
      | ⟨1, _⟩ => rfl⟩
  rw [projected_apply _ _ _ 0 _ a d d (by omega), pay2_apply]
  exact Finset.sum_congr rfl fun k _ => congrArg₂ (· * ·) (kept_apply m c t r k a h0) (hw k j d h1)

theorem array4 (c : Dev nD) : (dats m 0 c).arrAt 4 cfg0.N = output m c (m ((c.tc : Thread nD τ).loc main_arg2)) := by
  refine (dats m 0 c).arrAt_eq_of_covers 4 _ (by decide +kernel) fun t hf y => ?_
  blk_simp
  rw [after0_4, outs_eq]
  refine point_eq m c t (iblk m c 2 t) _ (keys_block m c t) y _ ?_ ?_ <;> blk_simp [index4 t]

theorem array5 (c : Dev nD) : (dats m 0 c).arrAt 5 cfg0.N = output m c (m ((c.tc : Thread nD τ).loc main_arg3)) := by
  refine (dats m 0 c).arrAt_eq_of_covers 5 _ (by decide +kernel) fun t hf y => ?_
  blk_simp
  rw [after0_5, outs_eq]
  refine point_eq m c t (iblk m c 3 t) _ (values_block m c t) y _ ?_ ?_ <;> blk_simp [index5 t]

end Cert.MemoryProj

end
-- ==== Proof.MemoryRef.lean ====
/-
  The reference's projections of the memory prompt, read at every place.
-/
module

public import proofs.«01_k».proof.Proof.Gen.MemoryReferenceIdeal
public import proofs.«01_k».proof.Proof.NormSpec
public import Idealize.ShloMosaic.Lib.Pipeline.ValueKit
public import Idealize.ShloMosaic.Lib.Pointwise

@[expose] public section

noncomputable section

namespace Cert.MemoryProj

open Cert.NormProj Cert.MemoryReferenceIdeal Cert.MemoryReferenceIdeal.Gen Idealize.ShloMosaic

variable (x : FVec Ideal S16x256x2048 .f32) (g : FVec Ideal S1x2048 .f32) (w : FVec Ideal S1x2048x512 .f32)

/-- The memory prompt's rows. -/
def refRows : FVec Ideal S4096x2048 .f32 := shapeCast _ x shapeCasts_S16x256x2048_S4096x2048

/-- The rows over their root mean squares, times the gain. -/
def refNormed : FVec Ideal S4096x2048 .f32 :=
  mulf (mulf (refRows x) (broadcastInDim S4096x2048 ![0, 1] bcast_S4096x1_S4096x2048_0_1 (Host.rsqrt (addf (Host.divf (broadcastInDim S4096x1 ![0] bcast_S4096_S4096x1_0 (Host.reduceAdd (mulf (refRows x) (refRows x)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 (shapeCast _ g shapeCasts_S1x2048_S2048)))

/-- The projection by the weights `w`. -/
def refOut : FVec Ideal S4096x512 .f32 :=
  Host.dotGeneral dot_S4096x2048_S2048x512_S4096x512_1_0_0_1_n_n none (refNormed x g) (shapeCast _ w shapeCasts_S1x2048x512_S2048x512)

theorem refNormed_apply (r : Fin 4096) (k : Fin 2048) :
    refNormed x g (ix2 r k) = rowNorm (fun k => refRows x (ix2 r k)) (fun k => g (ix2 0 k)) k := by
  unfold rowNorm
  pointwise [refNormed]

theorem refOut_apply (r : Fin 4096) (j : Fin 512) :
    refOut x g w (ix2 r j) = rowOut (fun k => refRows x (ix2 r k)) (fun k => g (ix2 0 k)) (fun k => w (ix3 0 k j)) := by
  unfold rowOut
  simp only [← refNormed_apply]
  pointwise [refOut]

theorem refOut_eq : refOut x g w = projected (fun r k => refRows x (ix2 r k)) (fun k => g (ix2 0 k)) (fun k j => w (ix3 0 k j)) 0 (by decide) := by
  funext y
  obtain ⟨a, b, rfl⟩ : ∃ (a : Fin 4096) (b : Fin 512), y = (ix2 a b : S4096x512.Idx) :=
    ⟨y 0, y 1, funext fun a => match a with
      | ⟨0, _⟩ => rfl
      | ⟨1, _⟩ => rfl⟩
  refine Eq.trans ?_ (projected_apply _ _ _ 0 (by decide) a b b (by omega)).symm
  exact refOut_apply x g w a b

end Cert.MemoryProj

end
-- ==== Proof.NormPad.lean ====
/-
  The new tokens of the samples in blocks of sixteen rows: four rows of a sample, then rows of zeros.
-/
module

public import proofs.«01_k».proof.Proof.NormSpec
public import Idealize.ShloMosaic.Lib.Pipeline.ValueKit
public import Idealize.ShloMosaic.Lib.KernelVsHost

@[expose] public section

noncomputable section

namespace Cert.NormProj

open Idealize.ShloMosaic

/-- The word of the integer zero is the number zero. -/
theorem zero_word (i : (⟨0, ![]⟩ : Shape).Idx) : (sitofp .f32 (constantI ⟨0, ![]⟩ 32 0#32) : FVec Ideal ⟨0, ![]⟩ .f32) i = (0 : EReal) := by
  show (((0#32 : BitVec 32).toInt : ℝ) : EReal) = 0
  norm_num

/-- Row `a` of the padded rows is token `a % 16` of sample `a / 16`, or zero where there is no such token. -/
def paddedRow (x : FVec Ideal ⟨3, ![32, 4, 2048]⟩ .f32) (a : Fin 512) (k : Fin 2048) : EReal :=
  if h : a.val % 16 < 4 then x (ix3 ⟨a.val / 16, by omega⟩ ⟨a.val % 16, h⟩ k) else 0

theorem padded_apply (x : FVec Ideal ⟨3, ![32, 4, 2048]⟩ .f32) (h : (⟨3, ![32, 4, 2048]⟩ : Shape).Pads ![0, 0, 0] ![0, 12, 0] ![0, 0, 0] ⟨3, ![32, 16, 2048]⟩)
    (hu : 0 < (⟨0, ![]⟩ : Shape).numel) (hc : (⟨3, ![32, 16, 2048]⟩ : Shape).ShapeCasts ⟨2, ![512, 2048]⟩) (a : Fin 512) (k : Fin 2048) :
    shapeCast ⟨2, ![512, 2048]⟩ (pad ⟨3, ![32, 16, 2048]⟩ ![0, 0, 0] ![0, 12, 0] ![0, 0, 0] x (sitofp .f32 (constantI ⟨0, ![]⟩ 32 0#32)) h hu) hc (ix2 a k)
      = paddedRow x a k := by
  rw [shapeCast_apply _ hc (ix2 a k) (ix3 (⟨a.val / 16, by omega⟩ : Fin 32) (⟨a.val % 16, by omega⟩ : Fin 16) k) (by
    rw [Shape.rowMajor_val_three, Shape.rowMajor_val_two]
    show (a.val / 16 * 16 + a.val % 16) * 2048 + k.val = a.val * 2048 + k.val
    omega)]
  unfold paddedRow
  split
  · next hlt =>
    refine pad_apply_of_inside _ _ _ x _ h hu _ _ fun d => ?_
    match d with
    | ⟨0, _⟩ => show a.val / 16 = 0 + (a.val / 16) * (0 + 1); omega
    | ⟨1, _⟩ => show a.val % 16 = 0 + (a.val % 16) * (0 + 1); omega
    | ⟨2, _⟩ => show k.val = 0 + k.val * (0 + 1); omega
  · next hge =>
    refine (pad_apply_of_not_inside _ _ _ x _ h hu _ (1 : Fin 3) fun hin => hge ?_).trans (zero_word _)
    have h2 := hin.2.2
    change (a.val % 16 - 0) / (0 + 1) < 4 at h2
    omega

/-- A row of zeros projects to zero. -/
theorem rowOut_zero (g w : Fin 2048 → EReal) : rowOut (fun _ => 0) g w = 0 := by
  unfold rowOut rowNorm
  simp only [zero_mul, Finset.sum_const_zero]

/-- To pad the projections is to project the padded rows. -/
theorem rowOut_paddedRow (x : FVec Ideal ⟨3, ![32, 4, 2048]⟩ .f32) (y : FVec Ideal ⟨3, ![32, 4, 2048]⟩ .f32) (g w : Fin 2048 → EReal) (j : Fin 2048)
    (hy : ∀ i r, y (ix3 i r j) = rowOut (fun k => x (ix3 i r k)) g w) (a : Fin 512) :
    paddedRow y a j = rowOut (paddedRow x a) g w := by
  by_cases h : a.val % 16 < 4
  · unfold paddedRow
    simp only [dif_pos h, hy]
  · have hx : paddedRow x a = fun _ => 0 := funext fun k => dif_neg h
    rw [hx, rowOut_zero]
    exact dif_neg h

end Cert.NormProj

end
-- ==== Proof.SampleKernel.lean ====
/-
  The six arrays that the kernel's projection of the samples' new tokens leaves.
-/
module

public import proofs.«01_k».proof.Proof.Gen.SampleIdeal.Value
public import proofs.«01_k».proof.Proof.NormPad
public import Idealize.ShloMosaic.Lib.Pipeline.ValueKit
public import Idealize.ShloMosaic.Lib.Pipeline.ReadBack

@[expose] public section

set_option maxRecDepth 1000000

noncomputable section

namespace Cert.SampleProj

open Cert.NormProj Cert.SampleIdeal Cert.SampleIdeal.Gen Idealize.ShloMosaic Idealize.ShloMosaic.TcCoe Idealize.SL.Sem
open Idealize.ShloMosaic.Pipeline (Dat)

/-! ## The stored expressions, read at a place -/

theorem pay2_apply (x : Vec Ideal S512x2048 .f32) (g : Vec Ideal S1x2048 .f32) (r : Fin 512) (k : Fin 2048) :
    k0_pay2 x g (ix2 r k) = rowNorm (fun k => x (ix2 r k)) (fun k => g (ix2 0 k)) k := by
  unfold rowNorm
  pointwise [k0_pay2]

/-- One block of rows times one block of columns. -/
theorem pay3_apply (h : Vec Ideal S512x2048 .bf16) (w : Vec Ideal S2048x256 .bf16) (r : Fin 512) (j : Fin 256) :
    k0_pay3 h w (ix2 r j) = ∑ k : Fin 2048, (h (ix2 r k) : EReal) * (w (ix2 k j) : EReal) := by
  pointwise [k0_pay3]

theorem pay3_pay2_apply (x : Vec Ideal S512x2048 .f32) (g : Vec Ideal S1x2048 .f32) (w : Vec Ideal S2048x256 .bf16) (r : Fin 512) (j : Fin 256) :
    k0_pay3 (k0_pay2 x g) w (ix2 r j) = rowOut (fun k => x (ix2 r k)) (fun k => g (ix2 0 k)) (fun k => w (ix2 k j)) := by
  rw [pay3_apply]
  unfold rowOut
  simp only [pay2_apply]

/-! ## The rows kept between points -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![0, 0 + (grid0.coords t 1).val] := by decide +kernel
theorem index3 : ∀ t : Fin cfg0.N, win0_3.index t = ![0, 8 + (grid0.coords t 1).val] := by decide +kernel
theorem index4 : ∀ t : Fin cfg0.N, win0_4.index t = ![0, 16 + (grid0.coords t 1).val] := by decide +kernel
theorem index5 : ∀ t : Fin cfg0.N, win0_5.index t = ![0, 24 + (grid0.coords t 1).val] := by decide +kernel
theorem index6 : ∀ t : Fin cfg0.N, win0_6.index t = ![0, 32 + (grid0.coords t 1).val] := by decide +kernel
theorem index7 : ∀ t : Fin cfg0.N, win0_7.index t = ![0, 40 + (grid0.coords t 1).val] := by decide +kernel
theorem index8 : ∀ t : Fin cfg0.N, win0_8.index t = ![(grid0.coords t 0).val, (grid0.coords t 1).val] := by decide +kernel
theorem index9 : ∀ t : Fin cfg0.N, win0_9.index t = ![(grid0.coords t 0).val, (grid0.coords t 1).val] := by decide +kernel
theorem index10 : ∀ t : Fin cfg0.N, win0_10.index t = ![(grid0.coords t 0).val, (grid0.coords t 1).val] := by decide +kernel
theorem index11 : ∀ t : Fin cfg0.N, win0_11.index t = ![(grid0.coords t 0).val, (grid0.coords t 1).val] := by decide +kernel
theorem index12 : ∀ t : Fin cfg0.N, win0_12.index t = ![(grid0.coords t 0).val, (grid0.coords t 1).val] := by decide +kernel
theorem index13 : ∀ t : Fin cfg0.N, win0_13.index t = ![(grid0.coords t 0).val, (grid0.coords t 1).val] := by decide +kernel

/-- Within a run of eight points the block of rows stays. -/
theorem coords_pred : ∀ t : Fin cfg0.N, ¬t.val % 8 = 0 → ∀ h, grid0.coords ⟨t.val - 1, h⟩ 0 = grid0.coords t 0 := by decide +kernel

variable (m : (ℓ : Loc nD τ sig) → Buf (Elt Ideal) ℓ) (ρ : Dev nD → PrngReg)

theorem V_rows (c : Dev nD) (a : Fin 512) (k : Fin 2048) :
    V m c main_v3 (ix2 a k : S512x2048.Idx) = paddedRow (m ((c.tc : Thread nD τ).loc main_arg0)) a k := by
  unfold V
  simp only [List.flatten_cons, List.flatten_nil, List.append_nil, List.cons_append, List.nil_append]
  after_results
  exact padded_apply _ pads_S32x4x2048_S32x16x2048_000_0120_000 h_S_ shapeCasts_S32x16x2048_S512x2048 a k

theorem V_gain (c : Dev nD) (k : Fin 2048) :
    V m c main_v5 (ix2 0 k : S1x2048.Idx) = m ((c.tc : Thread nD τ).loc main_arg1) (ix2 0 k : S1x2048.Idx) := by
  unfold V
  simp only [List.flatten_cons, List.flatten_nil, List.append_nil, List.cons_append, List.nil_append]
  after_results
  pointwise

theorem V_weights (c : Dev nD) (k : Fin 2048) (j : Fin 12288) :
    V m c main_v1 (ix2 k j : S2048x12288.Idx) = m ((c.tc : Thread nD τ).loc main_arg2) (ix3 0 k j : S1x2048x12288.Idx) := by
  unfold V
  simp only [List.flatten_cons, List.flatten_nil, List.append_nil, List.cons_append, List.nil_append]
  after_results
  pointwise

theorem rows_block (c : Dev nD) (t : Fin cfg0.N) (r : Fin 512) (k : Fin 2048) (r' : Fin 512) (hr : r'.val = (grid0.coords t 0).val * 512 + r.val) :
    iblk m c 0 t (ix2 r k : S512x2048.Idx) = paddedRow (m ((c.tc : Thread nD τ).loc main_arg0)) r' k := by
  rw [← V_rows m c]
  blk_ext [iblk, index0 t]

theorem gain_block (c : Dev nD) (t : Fin cfg0.N) (k : Fin 2048) :
    iblk m c 1 t (ix2 0 k : S1x2048.Idx) = m ((c.tc : Thread nD τ).loc main_arg1) (ix2 0 k : S1x2048.Idx) := by
  rw [← V_gain m c]
  blk_ext [iblk, index1 t]

theorem weights_block2 (c : Dev nD) (t : Fin cfg0.N) (k : Fin 2048) (j : Fin 256) (j' : Fin 12288) (hj : j'.val = (0 + (grid0.coords t 1).val) * 256 + j.val) :
    iblk m c 2 t (ix2 k j : S2048x256.Idx) = m ((c.tc : Thread nD τ).loc main_arg2) (ix3 0 k j' : S1x2048x12288.Idx) := by
  rw [← V_weights m c]
  blk_ext [iblk, index2 t]

theorem weights_block3 (c : Dev nD) (t : Fin cfg0.N) (k : Fin 2048) (j : Fin 256) (j' : Fin 12288) (hj : j'.val = (8 + (grid0.coords t 1).val) * 256 + j.val) :
    iblk m c 3 t (ix2 k j : S2048x256.Idx) = m ((c.tc : Thread nD τ).loc main_arg2) (ix3 0 k j' : S1x2048x12288.Idx) := by
  rw [← V_weights m c]
  blk_ext [iblk, index3 t]

theorem weights_block4 (c : Dev nD) (t : Fin cfg0.N) (k : Fin 2048) (j : Fin 256) (j' : Fin 12288) (hj : j'.val = (16 + (grid0.coords t 1).val) * 256 + j.val) :
    iblk m c 4 t (ix2 k j : S2048x256.Idx) = m ((c.tc : Thread nD τ).loc main_arg2) (ix3 0 k j' : S1x2048x12288.Idx) := by
  rw [← V_weights m c]
  blk_ext [iblk, index4 t]

theorem weights_block5 (c : Dev nD) (t : Fin cfg0.N) (k : Fin 2048) (j : Fin 256) (j' : Fin 12288) (hj : j'.val = (24 + (grid0.coords t 1).val) * 256 + j.val) :
    iblk m c 5 t (ix2 k j : S2048x256.Idx) = m ((c.tc : Thread nD τ).loc main_arg2) (ix3 0 k j' : S1x2048x12288.Idx) := by
  rw [← V_weights m c]
  blk_ext [iblk, index5 t]

theorem weights_block6 (c : Dev nD) (t : Fin cfg0.N) (k : Fin 2048) (j : Fin 256) (j' : Fin 12288) (hj : j'.val = (32 + (grid0.coords t 1).val) * 256 + j.val) :
    iblk m c 6 t (ix2 k j : S2048x256.Idx) = m ((c.tc : Thread nD τ).loc main_arg2) (ix3 0 k j' : S1x2048x12288.Idx) := by
  rw [← V_weights m c]
  blk_ext [iblk, index6 t]

theorem weights_block7 (c : Dev nD) (t : Fin cfg0.N) (k : Fin 2048) (j : Fin 256) (j' : Fin 12288) (hj : j'.val = (40 + (grid0.coords t 1).val) * 256 + j.val) :
    iblk m c 7 t (ix2 k j : S2048x256.Idx) = m ((c.tc : Thread nD τ).loc main_arg2) (ix3 0 k j' : S1x2048x12288.Idx) := by
  rw [← V_weights m c]
  blk_ext [iblk, index7 t]

/-- What every point keeps: its block of normalised rows. -/
def kept (c : Dev nD) (t : Fin cfg0.N) : Vec Ideal S512x2048 .bf16 := k0_pay2 (iblk m c 0 t) (iblk m c 1 t)

theorem kept_apply (c : Dev nD) (t : Fin cfg0.N) (r : Fin 512) (k : Fin 2048) (r' : Fin 512) (hr : r'.val = (grid0.coords t 0).val * 512 + r.val) :
    kept m c t (ix2 r k) = rowNorm (paddedRow (m ((c.tc : Thread nD τ).loc main_arg0)) r') (fun k => m ((c.tc : Thread nD τ).loc main_arg1) (ix2 0 k)) k := by
  unfold kept
  rw [pay2_apply]
  exact rowNorm_congr (funext fun k => rows_block m c t r k r' hr) (funext fun k => gain_block m c t k) k

/-- Within a run of eight points the kept rows do not change. -/
theorem kept_pred (c : Dev nD) (t : Fin cfg0.N) (h : ¬t.val % 8 = 0) (h') : kept m c ⟨t.val - 1, h'⟩ = kept m c t := by
  funext y
  obtain ⟨r, k, rfl⟩ : ∃ (r : Fin 512) (k : Fin 2048), y = (ix2 r k : S512x2048.Idx) :=
    ⟨y 0, y 1, funext fun a => match a with
      | ⟨0, _⟩ => rfl
      | ⟨1, _⟩ => rfl⟩
  have hi : (grid0.coords t 0).val < 1 := (grid0.coords t 0).isLt
  rw [kept_apply m c t r k ⟨(grid0.coords t 0).val * 512 + r.val, by omega⟩ rfl]
  exact kept_apply m c _ r k _ (by rw [coords_pred t h h'])

/-- What the seven buffers hold after a point. -/
def held (c : Dev nD) (t : Fin cfg0.N) :=
  (k0_pay3 (kept m c t) (iblk m c 2 t), k0_pay4 (kept m c t) (iblk m c 3 t), k0_pay5 (kept m c t) (iblk m c 4 t), k0_pay6 (kept m c t) (iblk m c 5 t), k0_pay7 (kept m c t) (iblk m c 6 t), k0_pay1 (kept m c t) (iblk m c 7 t), kept m c t)

theorem held_A (c : Dev nD) (t : Fin cfg0.N) (h : t.val % 8 = 0) : outsAt0 m c t.val t.isLt = held m c t := by
  rw [outsAt0_A m c t h]
  unfold held kept
  refine Prod.ext ?_ (Prod.ext ?_ (Prod.ext ?_ (Prod.ext ?_ (Prod.ext ?_ (Prod.ext ?_ ?_)))))
  all_goals frame_out

theorem held_B (c : Dev nD) (t : Fin cfg0.N) (h : ¬t.val % 8 = 0)
    (ih : (outsAt0 m c (t.val - 1) (Nat.lt_of_le_of_lt (Nat.sub_le _ _) t.isLt)).2.2.2.2.2.2 = kept m c t) : outsAt0 m c t.val t.isLt = held m c t := by
  rw [outsAt0_B m c t h, ih]
  unfold held
  frame_out
  simp only [read_unread_whole]
  rfl

theorem outs_eq (c : Dev nD) (n : ℕ) : ∀ h, outsAt0 m c n h = held m c ⟨n, h⟩ := by
  induction n with
  | zero => exact fun h => held_A m c ⟨0, h⟩ rfl
  | succ n ih =>
    intro h
    by_cases h0 : (n + 1) % 8 = 0
    · exact held_A m c ⟨n + 1, h⟩ h0
    · refine held_B m c ⟨n + 1, h⟩ h0 ?_
      refine (congrArg (·.2.2.2.2.2.2) (ih _)).trans ?_
      exact kept_pred m c ⟨n + 1, h⟩ h0 _

/-! ## The arrays -/

/-- Output `q`: that sixth of the columns. -/
def output (c : Dev nD) (q : ℕ) (hq : q * 2048 + 2048 ≤ 12288) : Vec Ideal S512x2048 .f32 :=
  projected (paddedRow (m ((c.tc : Thread nD τ).loc main_arg0)))
      (fun k => m ((c.tc : Thread nD τ).loc main_arg1) (ix2 0 k)) (fun k j => m ((c.tc : Thread nD τ).loc main_arg2) (ix3 0 k j)) q hq

/-- One point's block of output `q`, at its place in the array. -/
theorem point_eq (c : Dev nD) (t : Fin cfg0.N) (w : Vec Ideal S2048x256 .bf16) (q : ℕ) (hq : q * 2048 + 2048 ≤ 12288)
    (hw : ∀ (k : Fin 2048) (j : Fin 256) (j' : Fin 12288), j'.val = (8 * q + (grid0.coords t 1).val) * 256 + j.val →
      w (ix2 k j) = m ((c.tc : Thread nD τ).loc main_arg2) (ix3 0 k j' : S1x2048x12288.Idx))
    (y : S512x256.Idx) (z : S512x2048.Idx) (h0 : (z 0).val = (grid0.coords t 0).val * 512 + (y 0).val)
    (h1 : (z 1).val = (grid0.coords t 1).val * 256 + (y 1).val) :
    k0_pay3 (kept m c t) w y = output m c q hq z := by
  unfold output
  obtain ⟨r, j, rfl⟩ : ∃ (r : Fin 512) (j : Fin 256), y = (ix2 r j : S512x256.Idx) :=
    ⟨y 0, y 1, funext fun a => match a with
      | ⟨0, _⟩ => rfl
      | ⟨1, _⟩ => rfl⟩
  obtain ⟨a, b, rfl⟩ : ∃ (a : Fin 512) (b : Fin 2048), z = (ix2 a b : S512x2048.Idx) :=
    ⟨z 0, z 1, funext fun a => match a with
      | ⟨0, _⟩ => rfl
      | ⟨1, _⟩ => rfl⟩
  have h0' : a.val = (grid0.coords t 0).val * 512 + r.val := h0
  have h1' : b.val = (grid0.coords t 1).val * 256 + j.val := h1
  rw [projected_apply _ _ _ q hq a b ⟨q * 2048 + b.val, by omega⟩ rfl, pay3_apply]
  refine Finset.sum_congr rfl fun k _ => congrArg₂ (· * ·) (kept_apply m c t r k a h0') (hw k j _ ?_)
  show q * 2048 + b.val = _
  omega

theorem array8 (c : Dev nD) : (dats m 0 c).arrAt 8 cfg0.N = output m c 0 (by decide) := by
  refine (dats m 0 c).arrAt_eq_of_covers 8 _ (by decide +kernel) fun t hf y => ?_
  blk_simp
  rw [after0_8, outs_eq]
  refine point_eq m c t (iblk m c 2 t) 0 (by decide) (weights_block2 m c t) y _ ?_ ?_ <;> blk_simp [index8 t]

theorem array9 (c : Dev nD) : (dats m 0 c).arrAt 9 cfg0.N = output m c 1 (by decide) := by
  refine (dats m 0 c).arrAt_eq_of_covers 9 _ (by decide +kernel) fun t hf y => ?_
  blk_simp
  rw [after0_9, outs_eq]
  refine point_eq m c t (iblk m c 3 t) 1 (by decide) (weights_block3 m c t) y _ ?_ ?_ <;> blk_simp [index9 t]

theorem array10 (c : Dev nD) : (dats m 0 c).arrAt 10 cfg0.N = output m c 2 (by decide) := by
  refine (dats m 0 c).arrAt_eq_of_covers 10 _ (by decide +kernel) fun t hf y => ?_
  blk_simp
  rw [after0_10, outs_eq]
  refine point_eq m c t (iblk m c 4 t) 2 (by decide) (weights_block4 m c t) y _ ?_ ?_ <;> blk_simp [index10 t]

theorem array11 (c : Dev nD) : (dats m 0 c).arrAt 11 cfg0.N = output m c 3 (by decide) := by
  refine (dats m 0 c).arrAt_eq_of_covers 11 _ (by decide +kernel) fun t hf y => ?_
  blk_simp
  rw [after0_11, outs_eq]
  refine point_eq m c t (iblk m c 5 t) 3 (by decide) (weights_block5 m c t) y _ ?_ ?_ <;> blk_simp [index11 t]

theorem array12 (c : Dev nD) : (dats m 0 c).arrAt 12 cfg0.N = output m c 4 (by decide) := by
  refine (dats m 0 c).arrAt_eq_of_covers 12 _ (by decide +kernel) fun t hf y => ?_
  blk_simp
  rw [after0_12, outs_eq]
  refine point_eq m c t (iblk m c 6 t) 4 (by decide) (weights_block6 m c t) y _ ?_ ?_ <;> blk_simp [index12 t]

theorem array13 (c : Dev nD) : (dats m 0 c).arrAt 13 cfg0.N = output m c 5 (by decide) := by
  refine (dats m 0 c).arrAt_eq_of_covers 13 _ (by decide +kernel) fun t hf y => ?_
  blk_simp
  rw [after0_13, outs_eq]
  refine point_eq m c t (iblk m c 7 t) 5 (by decide) (weights_block7 m c t) y _ ?_ ?_ <;> blk_simp [index13 t]

end Cert.SampleProj

end
-- ==== Proof.SampleRef.lean ====
/-
  The reference's projection of the samples' new tokens, read at every place.
-/
module

public import proofs.«01_k».proof.Proof.Gen.SampleReferenceIdeal
public import proofs.«01_k».proof.Proof.NormPad
public import Idealize.ShloMosaic.Lib.Pipeline.ValueKit
public import Idealize.ShloMosaic.Lib.Pointwise

@[expose] public section

noncomputable section

namespace Cert.SampleProj

open Cert.NormProj Cert.SampleReferenceIdeal Cert.SampleReferenceIdeal.Gen Idealize.ShloMosaic

variable (x : FVec Ideal S32x4x2048 .f32) (g : FVec Ideal S1x2048 .f32) (w : FVec Ideal S1x2048x12288 .f32)

/-- The tokens over their root mean squares, times the gain. -/
def refNormed : FVec Ideal S32x4x2048 .f32 :=
  mulf (mulf x (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf x x) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32))))))
    (broadcastInDim S32x4x2048 ![0, 1, 2] bcast_S1x1x2048_S32x4x2048_0_1_2 (broadcastInDim S1x1x2048 ![2] bcast_S2048_S1x1x2048_2 (shapeCast _ g shapeCasts_S1x2048_S2048)))

/-- All columns of the projection. -/
def refAll : FVec Ideal S32x4x12288 .f32 :=
  Host.dotGeneral dot_S32x4x2048_S2048x12288_S32x4x12288_2_0_01_1_n_n none (refNormed x g) (shapeCast _ w shapeCasts_S1x2048x12288_S2048x12288)

theorem refNormed_apply (i : Fin 32) (r : Fin 4) (k : Fin 2048) :
    refNormed x g (ix3 i r k) = rowNorm (fun k => x (ix3 i r k)) (fun k => g (ix2 0 k)) k := by
  unfold rowNorm
  pointwise [refNormed]

theorem refAll_apply (i : Fin 32) (r : Fin 4) (j : Fin 12288) :
    refAll x g w (ix3 i r j) = rowOut (fun k => x (ix3 i r k)) (fun k => g (ix2 0 k)) (fun k => w (ix3 0 k j)) := by
  unfold rowOut
  simp only [← refNormed_apply]
  pointwise [refAll]

/-- Sixth `q` of the columns, in blocks of sixteen rows. -/
theorem ref_piece (q : ℕ) (hq : q * 2048 + 2048 ≤ 12288) (h : S32x4x12288.Slices ![0, 0, q * 2048] S32x4x2048) :
    shapeCast S512x2048 (pad S32x16x2048 ![0, 0, 0] ![0, 12, 0] ![0, 0, 0] (extractStridedSlice S32x4x2048 ![0, 0, q * 2048] (refAll x g w) h)
      (sitofp .f32 (constantI S_ 32 0#32)) pads_S32x4x2048_S32x16x2048_000_0120_000 h_S_) shapeCasts_S32x16x2048_S512x2048
      = projected (paddedRow x) (fun k => g (ix2 0 k)) (fun k j => w (ix3 0 k j)) q hq := by
  funext y
  obtain ⟨a, b, rfl⟩ : ∃ (a : Fin 512) (b : Fin 2048), y = (ix2 a b : S512x2048.Idx) :=
    ⟨y 0, y 1, funext fun a => match a with
      | ⟨0, _⟩ => rfl
      | ⟨1, _⟩ => rfl⟩
  refine Eq.trans ?_ (projected_apply _ _ _ q hq a b ⟨q * 2048 + b.val, by omega⟩ rfl).symm
  refine (padded_apply _ _ _ _ a b).trans (rowOut_paddedRow x _ _ _ b (fun i r => ?_) a)
  rw [← refAll_apply]
  unfold extractStridedSlice
  congr 1
  funext d
  match d with
  | ⟨0, _⟩ => exact Fin.ext (Nat.zero_add _)
  | ⟨1, _⟩ => exact Fin.ext (Nat.zero_add _)
  | ⟨2, _⟩ => rfl

end Cert.SampleProj

end
-- ==== Proof.ConvBody.lean ====
/-
  The convolution's body: each chunk of 128 rows by 128 channels adds thirty-one shifted products to the bias.
-/
module

public import proofs.«01_k».proof.Proof.Gen.ConvIdeal.Frame.RunA
public import Idealize.ShloMosaic.Lib.Pipeline.ReadBack
public import Idealize.ShloMosaic.Lib.Pointwise

@[expose] public section

set_option maxRecDepth 1000000

noncomputable section

namespace Cert.Conv

open Cert.ConvIdeal Cert.ConvIdeal.Gen Cert.ConvIdeal.Gen.kernelRun0_A Idealize.ShloMosaic

variable {F : FTy → Type} [FloatOps F]

/-- A block of the history times one tap's weights. -/
def tap (h : Vec F S136x128 .f32) (w : Vec F S1x128 .f32) : FVec F S136x128 .f32 :=
  mulf h (broadcastTo S136x128 (shapeCast S1x128 w facts.shapeCasts_S1x128_S1x128) facts.broadcasts_S1x128_S136x128)

/-- Three or four taps whose blocks start eight rows apart. -/
def taps3 (h : ℕ → Vec F S136x128 .f32) (w : ℕ → Vec F S1x128 .f32) (a b : ℕ) : FVec F S136x128 .f32 :=
  addf (addf (tap (h a) (w b)) (tap (h (a + 1)) (w (b + 8)))) (tap (h (a + 2)) (w (b + 16)))
def taps4 (h : ℕ → Vec F S136x128 .f32) (w : ℕ → Vec F S1x128 .f32) (a b : ℕ) : FVec F S136x128 .f32 :=
  addf (taps3 h w a b) (tap (h (a + 3)) (w (b + 24)))

/-- The bias and all taps: `h q` is the history from row `8 q` of the chunk, `w` the taps' weights. -/
def chunk (b : Vec F S1x128 .f32) (h : ℕ → Vec F S136x128 .f32) (w : ℕ → Vec F S1x128 .f32) : FVec F S128x128 .f32 :=
  shapeCast S128x128 (addf (addf (addf (addf (addf (addf (addf (addf (broadcastTo S128x128 (shapeCast S1x128 b facts.shapeCasts_S1x128_S1x128) facts.broadcasts_S1x128_S128x128)
    (extractStridedSlice S128x128 ![0, 0] (taps4 h w 1 6) facts.slices_S136x128_o0_0_S128x128))
    (extractStridedSlice S128x128 ![1, 0] (taps3 h w 1 7) facts.slices_S136x128_o1_0_S128x128))
    (extractStridedSlice S128x128 ![2, 0] (taps4 h w 0 0) facts.slices_S136x128_o2_0_S128x128))
    (extractStridedSlice S128x128 ![3, 0] (taps4 h w 0 1) facts.slices_S136x128_o3_0_S128x128))
    (extractStridedSlice S128x128 ![4, 0] (taps4 h w 0 2) facts.slices_S136x128_o4_0_S128x128))
    (extractStridedSlice S128x128 ![5, 0] (taps4 h w 0 3) facts.slices_S136x128_o5_0_S128x128))
    (extractStridedSlice S128x128 ![6, 0] (taps4 h w 0 4) facts.slices_S136x128_o6_0_S128x128))
    (extractStridedSlice S128x128 ![7, 0] (taps4 h w 0 5) facts.slices_S136x128_o7_0_S128x128)) facts.shapeCasts_S128x128_S128x128

theorem chunk_inb (p : Fin 8 × Fin 2) : ∀ a, (![128 * p.2.val, 128 * p.1.val] : Fin 2 → ℕ) a + S128x128.size a ≤ S256x1024.size a := by
  revert p; decide

/-- Row `n` of the history, 136 rows from there on, in the 128 columns from `k` on. -/
def window (H : Vec F S296x1024 .f32) (n k : ℕ) : Vec F S136x128 .f32 := fun y =>
  if h : n + (y 0).val < 296 ∧ k + (y 1).val < 1024 then H (ix2 ⟨n + (y 0).val, h.1⟩ ⟨k + (y 1).val, h.2⟩) else H (ix2 0 0)

/-- The 128 columns from `k` on of row `w`: of one tap, or of the bias. -/
def lanes {r : ℕ} (W : (⟨2, ![r, 1024]⟩ : Shape).Idx → F .f32) (hr : 0 < r) (w k : ℕ) : Vec F S1x128 .f32 := fun y =>
  if h : w < r ∧ k + (y 1).val < 1024 then W (ix2 ⟨w, h.1⟩ ⟨k + (y 1).val, h.2⟩) else W (ix2 ⟨0, hr⟩ 0)

/-- One chunk, from the history, the weights and the bias. -/
def chunkOf (H : Vec F S296x1024 .f32) (W : Vec F S31x1024 .f32) (b : Vec F S1x1024 .f32) (p : Fin 8 × Fin 2) : FVec F S128x128 .f32 :=
  chunk (lanes (r := 1) b (by decide) 0 (128 * p.1.val)) (fun q => window H (128 * p.2.val + 8 * q) (128 * p.1.val)) fun w => lanes (r := 31) W (by decide) w (128 * p.1.val)

/-- The chunks, the last stored one first. -/
def order : List (Fin 8 × Fin 2) := [(7, 1), (7, 0), (6, 1), (6, 0), (5, 1), (5, 0), (4, 1), (4, 0), (3, 1), (3, 0), (2, 1), (2, 0), (1, 1), (1, 0), (0, 1), (0, 0)]

variable (c : Dev nD) (i : grid0.Coords) (arg2 : Memref sig .tc .vmem S1x256x2048 .f32) (harg2 : arg2.IsWhole) (arg3 : Memref sig .tc .vmem S1x32x2048 .f32) (harg3 : arg3.IsWhole)
  (arg5 : Memref sig .tc .vmem S31x1024 .f32) (harg5 : arg5.IsWhole) (arg6 : Memref sig .tc .vmem S1x1024 .f32) (harg6 : arg6.IsWhole)
  (arg12 : Memref sig .tc .vmem S288x1024 .f32) (arg13 : Memref sig .tc .vmem S296x1024 .f32)
  (x0 : Vec F S1x256x2048 .f32) (x1 : Vec F S1x32x2048 .f32) (x3 : Vec F S31x1024 .f32) (x4 : Vec F S1x1024 .f32)

/-- The rounded history, whole. -/
def rounded : Vec F S296x1024 .f32 := View.canon (sl.HS1_2 c i arg2 harg2 arg3 harg3 arg12 x0 x1)

theorem window_eq (n k : ℕ) (h : ∀ a, (![n, k] : Fin 2 → ℕ) a + (![136, 128] : Fin 2 → ℕ) a ≤ S296x1024.size a) :
    arg13.view.readCov (sl.HS1_2 c i arg2 harg2 arg3 harg3 arg12 x0 x1) (Rect.unit (s := S296x1024) ![n, k] (![136, 128] : Fin 2 → ℕ) h).toLoadRect
      = window (rounded c i arg2 harg2 arg3 harg3 arg12 x0 x1) n k := by
  rw [View.readCov_eq_canon']
  funext y
  have h0 : n + 136 ≤ 296 := h 0
  have h1 : k + 128 ≤ 1024 := h 1
  have b0 : (y 0).val < 136 := (y 0).isLt
  have b1 : (y 1).val < 128 := (y 1).isLt
  unfold window rounded
  rw [dif_pos ⟨by omega, by omega⟩]
  congr 1
  funext a
  apply Fin.ext
  fin_cases a <;> simp [LoadRect.idx]

theorem lanes_eq {r : ℕ} (arg : Memref sig .tc .vmem ⟨2, ![r, 1024]⟩ .f32) (harg : arg.IsWhole) (W : (⟨2, ![r, 1024]⟩ : Shape).Idx → F .f32) (hr : 0 < r) (w k : ℕ)
    (h : ∀ a, (![w, k] : Fin 2 → ℕ) a + S1x128.size a ≤ (⟨2, ![r, 1024]⟩ : Shape).size a) :
    View.readAt (Elt F) arg.view (Rect.unit (s := ⟨2, ![r, 1024]⟩) ![w, k] S1x128.size h).toLoadRect (harg.unread W) = lanes W hr w k := by
  rw [View.readAt_eq_ld, harg.read_unread]
  funext y
  have h0 : w + 1 ≤ r := h 0
  have h1 : k + 128 ≤ 1024 := h 1
  have b1 : (y 1).val < 128 := (y 1).isLt
  have b0 : (y 0).val = 0 := Nat.lt_one_iff.mp (y 0).isLt
  unfold lanes
  rw [dif_pos ⟨by omega, by omega⟩]
  refine congrArg W ?_
  funext a
  apply Fin.ext
  fin_cases a <;> simp [Rect.emb_apply, b0]

set_option maxHeartbeats 8000000 in
theorem stored_eq : sl.HS2_16 c i arg2 harg2 arg3 harg3 arg5 harg5 arg6 harg6 arg12 arg13 x0 x1 x3 x4
    = order.map fun p => ⟨Rect.unit ![128 * p.2.val, 128 * p.1.val] S128x128.size (chunk_inb p),
        chunkOf (rounded c i arg2 harg2 arg3 harg3 arg12 x0 x1) x3 x4 p⟩ := by
  unfold sl.HS2_16 order
  dsimp only [List.map]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))))))))
  all_goals refine congrArg (Sigma.mk _) ?_
  all_goals
    simp only [sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19,
      sl.r_20, sl.r_21, sl.r_22, sl.r_23, sl.r_24, sl.r_25, sl.r_26, sl.r_27, sl.r_28, sl.r_29, sl.r_30, sl.r_31, sl.r_32, sl.r_33, sl.r_34, sl.r_35,
      sl.r_36, sl.r_37, sl.r_38, sl.r_39, sl.r_40, sl.r_41, sl.r_42, sl.r_43, sl.r_44, sl.r_45, sl.r_46, sl.r_47, sl.r_48, sl.r_49, sl.r_50, sl.r_51,
      sl.r_52, sl.r_53, sl.r_54, sl.r_55, sl.r_56, sl.r_57, sl.r_58, sl.r_59, sl.r_60, sl.r_61, sl.r_62, sl.r_63, sl.r_64, sl.r_65, sl.r_66, sl.r_67,
      sl.r_68, sl.r_69, sl.r_70, sl.r_71, sl.r_72, sl.r_73, sl.r_74, sl.r_75, sl.r_76, sl.r_77, sl.r_78, sl.r_79, sl.r_80, sl.r_81, sl.r_82, sl.r_83,
      sl.r_84, sl.r_85, sl.r_86, sl.r_87, sl.r_88, sl.r_89, sl.r_90, sl.r_91, sl.r_92, sl.r_93, sl.r_94, sl.r_95, sl.r_96, sl.r_97, sl.r_98, sl.r_99,
      sl.r_100, sl.r_101, sl.r_102, sl.r_103, sl.r_104, sl.r_105, sl.r_106, sl.r_107, sl.r_108, sl.r_109, sl.r_110, sl.r_111, sl.r_112, sl.r_113, sl.r_114,
      sl.r_115, sl.r_116, sl.r_117, sl.r_118, sl.r_119, sl.r_120, sl.r_121, sl.r_122, sl.r_123, sl.r_124, sl.r_125, sl.r_126, sl.r_127, sl.r_128, sl.r_129,
      sl.r_130, sl.r_131, sl.r_132, sl.r_133, sl.r_134, sl.r_135, sl.r_136, sl.r_137, sl.r_138, sl.r_139, sl.r_140, sl.r_141, sl.r_142, sl.r_143, sl.r_144,
      sl.r_145, sl.r_146, sl.r_147, sl.r_148, sl.r_149, sl.r_150, sl.r_151, sl.r_152, sl.r_153, sl.r_154, sl.r_155, sl.r_156, sl.r_157, sl.r_158, sl.r_159,
      sl.r_160, sl.r_161, sl.r_162, sl.r_163, sl.r_164, sl.r_165, sl.r_166, sl.r_167, sl.r_168, sl.r_169, sl.r_170, sl.r_171, sl.r_172, sl.r_173, sl.r_174,
      sl.r_175, sl.r_176, sl.r_177, sl.r_178, sl.r_179, sl.r_180, sl.v45, sl.v50, sl.v56, sl.v62, sl.v90, sl.v245, sl.v250, sl.v256, sl.v262, sl.v290,
      sl.v445, sl.v450, sl.v456, sl.v462, sl.v490, sl.v645, sl.v650, sl.v656, sl.v662, sl.v690, sl.v845, sl.v850, sl.v856, sl.v862, sl.v890, sl.v1045,
      sl.v1050, sl.v1056, sl.v1062, sl.v1090, sl.v1245, sl.v1250, sl.v1256, sl.v1262, sl.v1290, sl.v1445, sl.v1450, sl.v1456, sl.v1462, sl.v1490, sl.v1645,
      sl.v1650, sl.v1656, sl.v1662, sl.v1690, sl.v1845, sl.v1850, sl.v1856, sl.v1862, sl.v1890, sl.v2045, sl.v2050, sl.v2056, sl.v2062, sl.v2090, sl.v2245,
      sl.v2250, sl.v2256, sl.v2262, sl.v2290, sl.v2445, sl.v2450, sl.v2456, sl.v2462, sl.v2490, sl.v2645, sl.v2650, sl.v2656, sl.v2662, sl.v2690, sl.v2845,
      sl.v2850, sl.v2856, sl.v2862, sl.v2890, sl.v3045, sl.v3050, sl.v3056, sl.v3062, sl.v3090]
    simp only [window_eq, lanes_eq (r := 31) (hr := by decide), lanes_eq (r := 1) (hr := by decide)]
    rfl

end Cert.Conv
end
-- ==== Proof.ConvSpec.lean ====
/-
  What the convolution branch leaves at one place, written over extended reals.
-/
module

public import Idealize.ShloMosaic.Lib.Pointwise
public import Mathlib.Tactic.Abel

@[expose] public section

noncomputable section

namespace Cert.Conv

open Idealize.ShloMosaic

/-- The logistic function. -/
def logi (x : EReal) : EReal := Ideal.div 1 (1 + Ideal.exp (-x))

/-- A value times its gate. -/
def glu (a g : EReal) : EReal := a * logi g

/-- The thirty-one taps, added in order. -/
def tapSum (f : Fin 31 → EReal) : EReal :=
  f 0 + f 1 + f 2 + f 3 + f 4 + f 5 + f 6 + f 7 + f 8 + f 9 + f 10 + f 11 + f 12 + f 13 + f 14 + f 15 + f 16 + f 17 + f 18 + f 19 + f 20
    + f 21 + f 22 + f 23 + f 24 + f 25 + f 26 + f 27 + f 28 + f 29 + f 30

/-- The same taps, from the bias on and by their offset within eight rows. -/
theorem tapSum_eq (f : Fin 31 → EReal) (b : EReal) :
    b + (f 6 + f 14 + f 22 + f 30) + (f 7 + f 15 + f 23) + (f 0 + f 8 + f 16 + f 24) + (f 1 + f 9 + f 17 + f 25) + (f 2 + f 10 + f 18 + f 26)
      + (f 3 + f 11 + f 19 + f 27) + (f 4 + f 12 + f 20 + f 28) + (f 5 + f 13 + f 21 + f 29) = tapSum f + b := by
  unfold tapSum
  abel

/-- Row `n` of the history: thirty rows of zeros, then the rows of the batch. -/
def past (u : ℕ → EReal) (n : ℕ) : EReal := if n < 30 then 0 else u (n - 30)

/-- A row minus its mean. -/
def centred (y : Fin 1024 → EReal) (k : Fin 1024) : EReal := y k - Ideal.div (∑ j, y j) (Ideal.ofBits .f32 0x44800000#32)

/-- A row with its mean and variance taken out, scaled and shifted. -/
def layerNorm (y g b : Fin 1024 → EReal) (k : Fin 1024) : EReal :=
  centred y k * Ideal.rsqrt (Ideal.div (∑ j, centred y j * centred y j) (Ideal.ofBits .f32 0x44800000#32) + Ideal.ofBits .f32 0x3727C5AC#32) * g k + b k

/-- A row normalised, weighed by its own logistic, projected and gated. -/
def branch (y g b w : Fin 1024 → EReal) (gate : EReal) : EReal :=
  logi gate * ∑ k, (layerNorm y g b k * logi (layerNorm y g b k)) * w k

/-- The gated rows of batch element `b` at channel `l`, with zeros after the last. -/
def batchRow (x : Fin 16 → Fin 2048 → Fin 2048 → EReal) (b : Fin 16) (l : Fin 1024) (t : ℕ) : EReal :=
  if h : t < 2048 then glu (x b ⟨t, h⟩ ⟨l.val, by omega⟩) (x b ⟨t, h⟩ ⟨1024 + l.val, by omega⟩) else 0

/-- The convolution at row `t` and channel `l`. -/
def convAt (x : Fin 16 → Fin 2048 → Fin 2048 → EReal) (W : Fin 31 → Fin 1024 → EReal) (bias : Fin 1024 → EReal) (b : Fin 16) (t : ℕ) (l : Fin 1024) : EReal :=
  tapSum (fun w => past (batchRow x b l) (t + w.val) * W w l) + bias l

/-- The branch's result, whole. -/
def outArray (x gate : Fin 16 → Fin 2048 → Fin 2048 → EReal) (W : Fin 31 → Fin 1024 → EReal) (bias g be : Fin 1024 → EReal) (w : Fin 1024 → Fin 2048 → EReal) :
    (⟨3, ![16, 2048, 2048]⟩ : Shape).Idx → EReal := fun y =>
  branch (convAt x W bias (y 0) (y 1 : Fin 2048).val) g be (fun k => w k (y 2)) (gate (y 0) (y 1) (y 2))

/-- The last thirty rows of the history. -/
def stateArray (x : Fin 16 → Fin 2048 → Fin 2048 → EReal) : (⟨3, ![16, 30, 1024]⟩ : Shape).Idx → EReal := fun y =>
  past (batchRow x (y 0) (y 2)) (2048 + (y 1 : Fin 30).val)

end Cert.Conv

end
-- ==== Proof.ConvPoint.lean ====
/-
  The convolution kernel's expressions, read at one place.
-/
module

public import proofs.«01_k».proof.Proof.ConvBody
public import proofs.«01_k».proof.Proof.ConvSpec
public import Idealize.ShloMosaic.Lib.Pipeline.ValueKit

@[expose] public section

set_option maxRecDepth 1000000

noncomputable section

namespace Cert.Conv

open Cert.ConvIdeal Cert.ConvIdeal.Gen Cert.ConvIdeal.Gen.kernelRun0_A Idealize.ShloMosaic

theorem pay3_apply (x : Vec Ideal S1x256x2048 .f32) (r : Fin 256) (l : Fin 1024) :
    k0_pay3 x (ix2 r l) = glu (x (ix3 0 r ⟨l.val, by omega⟩)) (x (ix3 0 r ⟨1024 + l.val, by omega⟩)) := by
  unfold glu logi
  pointwise [k0_pay3]
  all_goals simp only [zero_sub]

theorem pay4_apply_zero (i : grid0.Coords) (h : (i 1).val = 0) (x : Vec Ideal S1x32x2048 .f32) (r : Fin 32) (l : Fin 1024) :
    k0_pay4 i x (ix2 r l) = 0 := by
  have e : Scalar.cmpi .eq (BitVec.ofNat 32 (i 1).val) 0#32 = 1#1 := by rw [h]; decide
  unfold k0_pay4
  dsimp only
  rw [e]
  pointwise

theorem pay4_apply_pos (i : grid0.Coords) (h : ¬(i 1).val = 0) (x : Vec Ideal S1x32x2048 .f32) (r : Fin 32) (l : Fin 1024) :
    k0_pay4 i x (ix2 r l) = glu (x (ix3 0 r ⟨l.val, by omega⟩)) (x (ix3 0 r ⟨1024 + l.val, by omega⟩)) := by
  have e : Scalar.cmpi .eq (BitVec.ofNat 32 (i 1).val) 0#32 = 0#1 :=
    (show ∀ j : Fin 8, ¬j.val = 0 → Scalar.cmpi .eq (BitVec.ofNat 32 j.val) 0#32 = 0#1 by decide) (i 1) h
  unfold k0_pay4
  dsimp only
  rw [e]
  unfold glu logi
  pointwise
  all_goals simp only [zero_sub]

theorem final_apply (y : Vec Ideal S256x1024 .f32) (g b : Vec Ideal S1x1024 .f32) (w : Vec Ideal S1024x2048 .bf16) (gate : Vec Ideal S1x256x2048 .f32) (r : Fin 256) (d : Fin 2048) :
    k0_pay1 (k0_pay195 y g b w) (k0_pay196 gate) (ix3 0 r d)
      = branch (fun k => y (ix2 r k)) (fun k => g (ix2 0 k)) (fun k => b (ix2 0 k)) (fun k => w (ix2 k d)) (gate (ix3 0 r d)) := by
  unfold branch layerNorm centred logi
  pointwise [k0_pay1, k0_pay195, k0_pay196]
  all_goals simp only [zero_sub]

theorem tap_apply (h : Vec Ideal S136x128 .f32) (w : Vec Ideal S1x128 .f32) (a : Fin 136) (l : Fin 128) :
    tap h w (ix2 a l) = (h (ix2 a l) : EReal) * (w (ix2 0 l) : EReal) := by
  pointwise [tap]

theorem taps3_apply (h : ℕ → Vec Ideal S136x128 .f32) (w : ℕ → Vec Ideal S1x128 .f32) (a b : ℕ) (r : Fin 136) (l : Fin 128) :
    taps3 h w a b (ix2 r l) = (tap (h a) (w b) (ix2 r l) + tap (h (a + 1)) (w (b + 8)) (ix2 r l) + tap (h (a + 2)) (w (b + 16)) (ix2 r l) : EReal) := by
  pointwise [taps3]

theorem taps4_apply (h : ℕ → Vec Ideal S136x128 .f32) (w : ℕ → Vec Ideal S1x128 .f32) (a b : ℕ) (r : Fin 136) (l : Fin 128) :
    taps4 h w a b (ix2 r l) = (taps3 h w a b (ix2 r l) + tap (h (a + 3)) (w (b + 24)) (ix2 r l) : EReal) := by
  pointwise [taps4]

theorem chunk_apply (b : Vec Ideal S1x128 .f32) (h : ℕ → Vec Ideal S136x128 .f32) (w : ℕ → Vec Ideal S1x128 .f32) (r l : Fin 128) :
    chunk b h w (ix2 r l) = (b (ix2 0 l) + taps4 h w 1 6 (ix2 ⟨0 + r.val, by omega⟩ l) + taps3 h w 1 7 (ix2 ⟨1 + r.val, by omega⟩ l)
      + taps4 h w 0 0 (ix2 ⟨2 + r.val, by omega⟩ l) + taps4 h w 0 1 (ix2 ⟨3 + r.val, by omega⟩ l) + taps4 h w 0 2 (ix2 ⟨4 + r.val, by omega⟩ l)
      + taps4 h w 0 3 (ix2 ⟨5 + r.val, by omega⟩ l) + taps4 h w 0 4 (ix2 ⟨6 + r.val, by omega⟩ l) + taps4 h w 0 5 (ix2 ⟨7 + r.val, by omega⟩ l) : EReal) := by
  pointwise [chunk]

theorem window_apply (H : Vec Ideal S296x1024 .f32) (n k : ℕ) (a : Fin 136) (l : Fin 128) (hn : n + a.val < 296) (hk : k + l.val < 1024) :
    window H n k (ix2 a l) = H (ix2 ⟨n + a.val, hn⟩ ⟨k + l.val, hk⟩) := dif_pos ⟨hn, hk⟩

theorem lanes_apply {r : ℕ} (W : (⟨2, ![r, 1024]⟩ : Shape).Idx → EReal) (hr : 0 < r) (w k : ℕ) (l : Fin 128) (hw : w < r) (hk : k + l.val < 1024) :
    lanes (F := Ideal) W hr w k (ix2 0 l) = W (ix2 ⟨w, hw⟩ ⟨k + l.val, hk⟩) := dif_pos ⟨hw, hk⟩

/-- The tap `w` at row `r` and channel `k`: row `r + w + 2` of the history times the tap's weight. -/
def tapTerm (H : Vec Ideal S296x1024 .f32) (W : Vec Ideal S31x1024 .f32) (r : ℕ) (hr : r < 256) (k : Fin 1024) (w : Fin 31) : EReal :=
  H (ix2 ⟨r + w.val + 2, by omega⟩ k) * W (ix2 w k)

/-- What the scratch holds at row `r` and channel `k` once every chunk is stored. -/
def convRow (H : Vec Ideal S296x1024 .f32) (W : Vec Ideal S31x1024 .f32) (b : Vec Ideal S1x1024 .f32) (r : Fin 256) (k : Fin 1024) : EReal :=
  tapSum (tapTerm H W r.val r.isLt k) + b (ix2 0 k)

theorem chunkOf_apply (H : Vec Ideal S296x1024 .f32) (W : Vec Ideal S31x1024 .f32) (b : Vec Ideal S1x1024 .f32) (p : Fin 8 × Fin 2) (r l : Fin 128)
    (hr : 128 * p.2.val + r.val < 256) (hl : 128 * p.1.val + l.val < 1024) :
    chunkOf H W b p (ix2 r l) = convRow H W b ⟨128 * p.2.val + r.val, hr⟩ ⟨128 * p.1.val + l.val, hl⟩ := by
  unfold chunkOf convRow
  rw [chunk_apply]
  have e : ∀ (q s w : ℕ) (hs : s + r.val < 136) (hw : w < 31) (h : w + 2 = 8 * q + s),
      tap (window H (128 * p.2.val + 8 * q) (128 * p.1.val)) (lanes (r := 31) W (by decide) w (128 * p.1.val)) (ix2 ⟨s + r.val, hs⟩ l)
        = tapTerm H W (128 * p.2.val + r.val) hr ⟨128 * p.1.val + l.val, hl⟩ ⟨w, hw⟩ := by
    intro q s w hs hw h
    rw [tap_apply, window_apply _ _ _ _ _ (by dsimp only; omega) hl, lanes_apply _ _ _ _ _ hw hl]
    unfold tapTerm
    congr 4
    dsimp only
    omega
  simp only [taps4_apply, taps3_apply]
  rw [lanes_apply _ _ _ _ _ (by decide) hl]
  generalize tapTerm H W (128 * p.2.val + r.val) hr ⟨128 * p.1.val + l.val, hl⟩ = f at e ⊢
  have e' : ∀ (q s w : ℕ) (hs : s + r.val < 136) (w' : Fin 31) (hw : w'.val = w) (h : w + 2 = 8 * q + s),
      tap (window H (128 * p.2.val + 8 * q) (128 * p.1.val)) (lanes (r := 31) W (by decide) w (128 * p.1.val)) (ix2 ⟨s + r.val, hs⟩ l) = f w' := by
    intro q s w hs w' hw h
    subst hw
    exact e q s w'.val hs w'.isLt h
  rw [e' 1 0 6 _ 6 rfl rfl, e' (1 + 1) 0 (6 + 8) _ 14 rfl rfl, e' (1 + 2) 0 (6 + 16) _ 22 rfl rfl, e' (1 + 3) 0 (6 + 24) _ 30 rfl rfl,
    e' 1 1 7 _ 7 rfl rfl, e' (1 + 1) 1 (7 + 8) _ 15 rfl rfl, e' (1 + 2) 1 (7 + 16) _ 23 rfl rfl,
    e' 0 2 0 _ 0 rfl rfl, e' (0 + 1) 2 (0 + 8) _ 8 rfl rfl, e' (0 + 2) 2 (0 + 16) _ 16 rfl rfl, e' (0 + 3) 2 (0 + 24) _ 24 rfl rfl,
    e' 0 3 1 _ 1 rfl rfl, e' (0 + 1) 3 (1 + 8) _ 9 rfl rfl, e' (0 + 2) 3 (1 + 16) _ 17 rfl rfl, e' (0 + 3) 3 (1 + 24) _ 25 rfl rfl,
    e' 0 4 2 _ 2 rfl rfl, e' (0 + 1) 4 (2 + 8) _ 10 rfl rfl, e' (0 + 2) 4 (2 + 16) _ 18 rfl rfl, e' (0 + 3) 4 (2 + 24) _ 26 rfl rfl,
    e' 0 5 3 _ 3 rfl rfl, e' (0 + 1) 5 (3 + 8) _ 11 rfl rfl, e' (0 + 2) 5 (3 + 16) _ 19 rfl rfl, e' (0 + 3) 5 (3 + 24) _ 27 rfl rfl,
    e' 0 6 4 _ 4 rfl rfl, e' (0 + 1) 6 (4 + 8) _ 12 rfl rfl, e' (0 + 2) 6 (4 + 16) _ 20 rfl rfl, e' (0 + 3) 6 (4 + 24) _ 28 rfl rfl,
    e' 0 7 5 _ 5 rfl rfl, e' (0 + 1) 7 (5 + 8) _ 13 rfl rfl, e' (0 + 2) 7 (5 + 16) _ 21 rfl rfl, e' (0 + 3) 7 (5 + 24) _ 29 rfl rfl]
  exact tapSum_eq f _

theorem mem_unit {A B a b n m : ℕ} (inb : ∀ d, (![a, b] : Fin 2 → ℕ) d + (![n, m] : Fin 2 → ℕ) d ≤ (⟨2, ![A, B]⟩ : Shape).size d) (r : Fin A) (k : Fin B) :
    (ix2 r k : (⟨2, ![A, B]⟩ : Shape).Idx) ∈ (Rect.unit (s := ⟨2, ![A, B]⟩) ![a, b] ![n, m] inb).set ↔ (a ≤ r.val ∧ r.val < a + n) ∧ b ≤ k.val ∧ k.val < b + m := by
  rw [LoadRect.mem_set]
  constructor
  · intro h
    obtain ⟨j, hj, e⟩ := h 0
    obtain ⟨j', hj', e'⟩ := h 1
    replace hj : j < n := hj
    replace e : r.val = a + 1 * j := e
    replace hj' : j' < m := hj'
    replace e' : k.val = b + 1 * j' := e'
    omega
  · rintro ⟨⟨h1, h2⟩, h3, h4⟩ d
    match d with
    | ⟨0, _⟩ => exact ⟨r.val - a, (by omega : r.val - a < n), (by omega : r.val = a + 1 * (r.val - a))⟩
    | ⟨1, _⟩ => exact ⟨k.val - b, (by omega : k.val - b < m), (by omega : k.val = b + 1 * (k.val - b))⟩

theorem mem_order (p : Fin 8 × Fin 2) : p ∈ order := by
  revert p
  decide

/-- The sixteen chunks fill the scratch. -/
theorem stored_apply (H : Vec Ideal S296x1024 .f32) (W : Vec Ideal S31x1024 .f32) (b : Vec Ideal S1x1024 .f32) (r : Fin 256) (k : Fin 1024) :
    View.canon (Val := Elt Ideal) (e := .f32) (order.map fun p => (⟨Rect.unit (s := S256x1024) ![128 * p.2.val, 128 * p.1.val] S128x128.size (chunk_inb p), chunkOf H W b p⟩ : View.Piece (Elt Ideal) S256x1024 .f32))
      (ix2 r k) = convRow H W b r k := by
  refine View.canon_apply_of_pieces (Val := Elt Ideal) (S := S256x1024) (e := .f32) (fun y => (convRow H W b (y 0) (y 1) : EReal)) _ ?_ _ ?_
  · intro pc hpc x
    obtain ⟨p, -, rfl⟩ := List.mem_map.mp hpc
    obtain ⟨a, l, rfl⟩ : ∃ (a l : Fin 128), x = (ix2 a l : S128x128.Idx) :=
      ⟨x 0, x 1, funext fun a => match a with
        | ⟨0, _⟩ => rfl
        | ⟨1, _⟩ => rfl⟩
    refine (chunkOf_apply H W b p a l (by omega) (by omega)).trans ?_
    congr 1 <;> apply Fin.ext <;> simp [Rect.emb_apply]
  · refine ⟨_, List.mem_map.mpr ⟨(⟨k.val / 128, by omega⟩, ⟨r.val / 128, by omega⟩), mem_order _, rfl⟩, ?_⟩
    exact (mem_unit (chunk_inb (⟨k.val / 128, by omega⟩, ⟨r.val / 128, by omega⟩)) r k).mpr ⟨⟨by dsimp only; omega, by dsimp only; omega⟩, by dsimp only; omega, by dsimp only; omega⟩

end Cert.Conv

end
-- ==== Proof.ConvScratch.lean ====
/-
  The convolution kernel's scratch arrays, read at one place.
-/
module

public import proofs.«01_k».proof.Proof.ConvPoint
public import Idealize.ShloMosaic.Lib.Pipeline.ValueKit

@[expose] public section

set_option maxRecDepth 1000000

noncomputable section

namespace Cert.Conv

open Cert.ConvIdeal Cert.ConvIdeal.Gen Cert.ConvIdeal.Gen.kernelRun0_A Idealize.ShloMosaic

/-! ## The two scratch arrays -/

section

variable (c : Dev nD) (i : grid0.Coords) (arg2 : Memref sig .tc .vmem S1x256x2048 .f32) (harg2 : arg2.IsWhole) (arg3 : Memref sig .tc .vmem S1x32x2048 .f32) (harg3 : arg3.IsWhole)
  (arg12 : Memref sig .tc .vmem S288x1024 .f32) (x0 : Vec Ideal S1x256x2048 .f32) (x1 : Vec Ideal S1x32x2048 .f32)

/-- Row `n` of a block's history. -/
def histRow (n : Fin 288) (l : Fin 1024) : EReal :=
  if h : n.val < 32 then
    if (i 1).val = 0 then 0 else glu (x1 (ix3 0 ⟨n.val, h⟩ ⟨l.val, by omega⟩)) (x1 (ix3 0 ⟨n.val, h⟩ ⟨1024 + l.val, by omega⟩))
  else glu (x0 (ix3 0 ⟨n.val - 32, by omega⟩ ⟨l.val, by omega⟩)) (x0 (ix3 0 ⟨n.val - 32, by omega⟩ ⟨1024 + l.val, by omega⟩))

theorem pay4_histRow (r : Fin 32) (l : Fin 1024) (h : r.val < 288) : k0_pay4 i x1 (ix2 r l) = histRow i x0 x1 ⟨r.val, h⟩ l := by
  unfold histRow
  rw [dif_pos r.isLt]
  by_cases hi : (i 1).val = 0
  · rw [if_pos hi]
    exact pay4_apply_zero i hi x1 r l
  · rw [if_neg hi]
    exact pay4_apply_pos i hi x1 r l

theorem pay3_histRow (r : Fin 256) (l : Fin 1024) (n : Fin 288) (h : n.val = 32 + r.val) : k0_pay3 x0 (ix2 r l) = histRow i x0 x1 n l := by
  obtain ⟨n, hn⟩ := n
  dsimp only at h
  subst h
  unfold histRow
  rw [dif_neg (by dsimp only; omega)]
  rw [pay3_apply]
  congr 3 <;> apply Fin.ext <;> dsimp only <;> omega

theorem whole_eq {s : Shape} {e : EltTy} (arg : Memref sig .tc .vmem s e) (harg : arg.IsWhole) (x : Vec Ideal s e) (off : Fin s.rank → ℕ) (h0 : ∀ a, off a = 0) (h : ∀ a, off a + s.size a ≤ s.size a) :
    View.readAt (Elt Ideal) arg.view (Rect.unit (s := s) off s.size h).toLoadRect (harg.unread x) = x := by
  rw [View.readAt_eq_ld, harg.read_unread]
  funext y
  refine congrArg x ?_
  funext a
  apply Fin.ext
  simp [Rect.emb_apply, h0]

theorem hist_apply (n : Fin 288) (l : Fin 1024) :
    View.canon (sl.HS0_2 (F := Ideal) c i arg2 harg2 arg3 harg3 x0 x1) (ix2 n l) = histRow i x0 x1 n l := by
  refine View.canon_apply_of_pieces (Val := Elt Ideal) (S := S288x1024) (e := .f32) (fun y => (histRow i x0 x1 (y 0) (y 1) : EReal)) _ ?_ _ ?_
  · unfold sl.HS0_2
    simp only [List.forall_mem_cons, List.not_mem_nil, false_implies, implies_true, and_true]
    constructor
    · intro x
      obtain ⟨a, l, rfl⟩ : ∃ (a : Fin 32) (l : Fin 1024), x = (ix2 a l : S32x1024.Idx) :=
        ⟨x 0, x 1, funext fun a => match a with
          | ⟨0, _⟩ => rfl
          | ⟨1, _⟩ => rfl⟩
      rw [whole_eq arg3 harg3 x1 _ (by decide)]
      refine (pay4_histRow i x0 x1 a l (by omega)).trans ?_
      congr 1 <;> apply Fin.ext <;> simp [Rect.emb_apply]
    · intro x
      obtain ⟨a, l, rfl⟩ : ∃ (a : Fin 256) (l : Fin 1024), x = (ix2 a l : S256x1024.Idx) :=
        ⟨x 0, x 1, funext fun a => match a with
          | ⟨0, _⟩ => rfl
          | ⟨1, _⟩ => rfl⟩
      rw [whole_eq arg2 harg2 x0 _ (by decide)]
      refine (pay3_histRow i x0 x1 a l ⟨32 + a.val, by omega⟩ rfl).trans ?_
      congr 1 <;> apply Fin.ext <;> simp [Rect.emb_apply]
  · unfold sl.HS0_2
    by_cases h : n.val < 32
    · exact ⟨_, List.mem_cons_self, (mem_unit (by decide) n l).mpr ⟨⟨by omega, by omega⟩, by omega, by omega⟩⟩
    · exact ⟨_, List.mem_cons_of_mem _ List.mem_cons_self, (mem_unit (by decide) n l).mpr ⟨⟨by omega, by omega⟩, by omega, by omega⟩⟩

theorem rounded_apply (n : Fin 288) (l : Fin 1024) (h : n.val < 296) :
    rounded (F := Ideal) c i arg2 harg2 arg3 harg3 arg12 x0 x1 (ix2 ⟨n.val, h⟩ l) = histRow i x0 x1 n l := by
  unfold rounded sl.HS1_2
  rw [View.canon_cons_of_not_mem]
  · have e : (ix2 ⟨n.val, h⟩ l : S296x1024.Idx) = (Rect.unit (s := S296x1024) ![0, 0] S288x1024.size (by decide)).emb (ix2 n l : S288x1024.Idx) := by
      funext a
      match a with
      | ⟨0, _⟩ => apply Fin.ext; simp [Rect.emb_apply]
      | ⟨1, _⟩ => apply Fin.ext; simp [Rect.emb_apply]
    rw [e, View.canon_cons_emb]
    unfold sl.r sl.v33
    rw [View.readCov_eq_canon']
    rw [← hist_apply c i arg2 harg2 arg3 harg3 x0 x1]
    generalize View.canon (sl.HS0_2 (F := Ideal) c i arg2 harg2 arg3 harg3 x0 x1) = H
    pointwise [k0_pay6, k0_pay5]
  · intro hx
    have := ((mem_unit (by decide) _ _).mp hx).1.1
    dsimp only at this
    omega

end

end Cert.Conv

end
-- ==== Proof.ConvOut.lean ====
/-
  What the convolution's body leaves at one grid point.
-/
module

public import proofs.«01_k».proof.Proof.ConvScratch
public import proofs.«01_k».proof.Proof.Gen.ConvIdeal.Value

@[expose] public section

set_option maxRecDepth 1000000

noncomputable section

namespace Cert.Conv

open Cert.ConvIdeal Cert.ConvIdeal.Gen Cert.ConvIdeal.Gen.kernelRun0_A Idealize.ShloMosaic

/-- The convolution at row `r` and channel `k` of a block. -/
def blockRow (i : grid0.Coords) (x0 : Vec Ideal S1x256x2048 .f32) (x1 : Vec Ideal S1x32x2048 .f32) (x3 : Vec Ideal S31x1024 .f32) (x4 : Vec Ideal S1x1024 .f32) (r : Fin 256) (k : Fin 1024) : EReal :=
  tapSum (fun w => histRow i x0 x1 ⟨r.val + w.val + 2, by omega⟩ k * x3 (ix2 w k)) + x4 (ix2 0 k)

variable (c : Dev nD) (i : grid0.Coords) (arg2 : Memref sig .tc .vmem S1x256x2048 .f32) (harg2 : arg2.IsWhole) (arg3 : Memref sig .tc .vmem S1x32x2048 .f32) (harg3 : arg3.IsWhole) (arg4 : Memref sig .tc .vmem S1x256x2048 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x2048 .bf16) (harg9 : arg9.IsWhole) (arg10 : Memref sig .tc .vmem S1x256x2048 .bf16) (harg10 : arg10.IsWhole) (arg11 : Memref sig .tc .vmem S1x30x1024 .f32) (harg11 : arg11.IsWhole) (arg12 : Memref sig .tc .vmem S288x1024 .f32) (harg12 : arg12.IsWhole) (arg13 : Memref sig .tc .vmem S296x1024 .f32) (harg13 : arg13.IsWhole) (arg14 : Memref sig .tc .vmem S256x1024 .f32) (harg14 : arg14.IsWhole)
    (x0 : Vec Ideal S1x256x2048 .f32) (x1 : Vec Ideal S1x32x2048 .f32) (x2 : Vec Ideal S1x256x2048 .f32) (x3 : Vec Ideal S31x1024 .f32) (x4 : Vec Ideal S1x1024 .f32) (x5 : Vec Ideal S1x1024 .f32) (x6 : Vec Ideal S1x1024 .f32) (x7 : Vec Ideal S1024x2048 .bf16)

theorem convRow_rounded (r : Fin 256) (k : Fin 1024) : convRow (rounded (F := Ideal) c i arg2 harg2 arg3 harg3 arg12 x0 x1) x3 x4 r k = blockRow i x0 x1 x3 x4 r k := by
  unfold convRow blockRow
  congr 2
  funext w
  unfold tapTerm
  exact congrArg (fun a : EReal => a * x3 (ix2 w k)) (rounded_apply c i arg2 harg2 arg3 harg3 arg12 x0 x1 ⟨r.val + w.val + 2, by omega⟩ k _)

theorem v3243_apply (r : Fin 256) (k : Fin 1024) :
    sl.v3243 (F := Ideal) c i arg2 harg2 arg3 harg3 arg5 harg5 arg6 harg6 arg12 arg13 arg14 x0 x1 x3 x4 (ix2 r k) = blockRow i x0 x1 x3 x4 r k := by
  unfold sl.v3243
  rw [View.readCov_eq_canon', stored_eq]
  refine Eq.trans ?_ ((stored_apply _ x3 x4 r k).trans (convRow_rounded c i arg2 harg2 arg3 harg3 arg12 x0 x1 x3 x4 r k))
  refine congrArg (View.canon _) ?_
  funext a
  match a with
  | ⟨0, _⟩ => apply Fin.ext; simp [LoadRect.idx]
  | ⟨1, _⟩ => apply Fin.ext; simp [LoadRect.idx]

theorem out_A_apply (hc0 : ¬cond0_0 i) (r : Fin 256) (d : Fin 2048) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r d)
      = branch (fun k => blockRow i x0 x1 x3 x4 r k) (fun k => x5 (ix2 0 k)) (fun k => x6 (ix2 0 k)) (fun k => x7 (ix2 k d)) (x2 (ix3 0 r d)) := by
  unfold out0_A_8
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = [⟨Rect.unit (s := S1x256x2048) ![0, 0, 0] S1x256x2048.size (by decide), k0_pay1 (sl.r_181 c i arg2 harg2 arg3 harg3 arg5 harg5 arg6 harg6 arg7 harg7 arg8 harg8 arg9 harg9 arg12 arg13 arg14 x0 x1 x3 x4 x5 x6 x7) (sl.r_182 c arg4 harg4 x2)⟩] := rfl
  rw [e, View.canon_cons_unit_lit _ _ _ (by decide)]
  unfold sl.r_181 sl.r_182
  rw [whole_eq arg7 harg7 x5 _ (by decide), whole_eq arg8 harg8 x6 _ (by decide), whole_eq arg9 harg9 x7 _ (by decide), whole_eq arg4 harg4 x2 _ (by decide)]
  rw [final_apply]
  simp only [v3243_apply]

theorem out_B_apply (hc0 : cond0_0 i) (r : Fin 256) (d : Fin 2048) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r d)
      = branch (fun k => blockRow i x0 x1 x3 x4 r k) (fun k => x5 (ix2 0 k)) (fun k => x6 (ix2 0 k)) (fun k => x7 (ix2 k d)) (x2 (ix3 0 r d)) := by
  unfold out0_B_8
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = [⟨Rect.unit (s := S1x256x2048) ![0, 0, 0] S1x256x2048.size (by decide), k0_pay1 (sl.r_181 c i arg2 harg2 arg3 harg3 arg5 harg5 arg6 harg6 arg7 harg7 arg8 harg8 arg9 harg9 arg12 arg13 arg14 x0 x1 x3 x4 x5 x6 x7) (sl.r_182 c arg4 harg4 x2)⟩] := rfl
  rw [e, View.canon_cons_unit_lit _ _ _ (by decide)]
  unfold sl.r_181 sl.r_182
  rw [whole_eq arg7 harg7 x5 _ (by decide), whole_eq arg8 harg8 x6 _ (by decide), whole_eq arg9 harg9 x7 _ (by decide), whole_eq arg4 harg4 x2 _ (by decide)]
  rw [final_apply]
  simp only [v3243_apply]

theorem state_B_apply (hc0 : cond0_0 i) (n : Fin 30) (k : Fin 1024) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 n k) = histRow i x0 x1 ⟨258 + n.val, by omega⟩ k := by
  unfold out0_B_9
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1
      = [⟨Rect.unit (s := S1x30x1024) ![0, 0, 0] S1x30x1024.size (by decide), k0_pay2 (arg12.view.readCov (sl.HS0_2 c i arg2 harg2 arg3 harg3 x0 x1) (Rect.unit (s := S288x1024) ![258, 0] S30x1024.size (by decide)).toLoadRect)⟩] := rfl
  rw [e, View.canon_cons_unit_lit _ _ _ (by decide)]
  rw [View.readCov_eq_canon', ← hist_apply c i arg2 harg2 arg3 harg3 x0 x1]
  generalize View.canon (sl.HS0_2 (F := Ideal) c i arg2 harg2 arg3 harg3 x0 x1) = H
  pointwise [k0_pay2]

end Cert.Conv

end
-- ==== Proof.ConvKernel.lean ====
/-
  The two arrays that the kernel's convolution branch leaves.
-/
module

public import proofs.«01_k».proof.Proof.ConvOut
public import Idealize.ShloMosaic.Lib.Pipeline.ValueKit

@[expose] public section

set_option maxRecDepth 1000000

noncomputable section

namespace Cert.Conv

open Cert.ConvIdeal Cert.ConvIdeal.Gen Idealize.ShloMosaic Idealize.ShloMosaic.TcCoe Idealize.SL.Sem
open Idealize.ShloMosaic.Pipeline (Dat)

theorem index0 : ∀ t : Fin cfg0.N, win0_0.index t = ![(grid0.coords t 0).val, (grid0.coords t 1).val, 0] := by decide +kernel
theorem index1 : ∀ t : Fin cfg0.N, win0_1.index t = ![(grid0.coords t 0).val, 8 * (grid0.coords t 1).val - 1, 0] := by decide +kernel
theorem index2 : ∀ t : Fin cfg0.N, win0_2.index t = ![(grid0.coords t 0).val, (grid0.coords t 1).val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![(grid0.coords t 0).val, (grid0.coords t 1).val, 0] := by decide +kernel
theorem index9 : ∀ t : Fin cfg0.N, win0_9.index t = ![(grid0.coords t 0).val, 0, 0] := by decide +kernel
theorem coords1 : ∀ t : Fin cfg0.N, (grid0.coords t 1).val = t.val % 8 := by decide +kernel
theorem flush9 : ∀ t : Fin cfg0.N, (cfg0.win 9).flush t = true → t.val % 8 = 7 := by decide +kernel

variable (m : (ℓ : Loc nD τ sig) → Buf (Elt Ideal) ℓ) (ρ : Dev nD → PrngReg)

/-- The arguments, by their indices. -/
def argX (c : Dev nD) (b : Fin 16) (t d : Fin 2048) : EReal := m ((c.tc : Thread nD τ).loc main_arg0) (ix3 b t d : S16x2048x2048.Idx)
def argGate (c : Dev nD) (b : Fin 16) (t d : Fin 2048) : EReal := m ((c.tc : Thread nD τ).loc main_arg1) (ix3 b t d : S16x2048x2048.Idx)
def argTaps (c : Dev nD) (w : Fin 31) (k : Fin 1024) : EReal := m ((c.tc : Thread nD τ).loc main_arg2) (ix3 0 w k : S1x31x1024.Idx)
def argBias (c : Dev nD) (k : Fin 1024) : EReal := m ((c.tc : Thread nD τ).loc main_arg3) (ix2 0 k : S1x1024.Idx)
def argGain (c : Dev nD) (k : Fin 1024) : EReal := m ((c.tc : Thread nD τ).loc main_arg4) (ix2 0 k : S1x1024.Idx)
def argShift (c : Dev nD) (k : Fin 1024) : EReal := m ((c.tc : Thread nD τ).loc main_arg5) (ix2 0 k : S1x1024.Idx)
def argW (c : Dev nD) (k : Fin 1024) (d : Fin 2048) : EReal := m ((c.tc : Thread nD τ).loc main_arg6) (ix3 0 k d : S1x1024x2048.Idx)

theorem V_taps (c : Dev nD) (w : Fin 31) (k : Fin 1024) : V m c main_v2 (ix2 w k : S31x1024.Idx) = argTaps m c w k := by
  unfold V argTaps
  after_results
  pointwise

theorem V_bias (c : Dev nD) (k : Fin 1024) : V m c main_v6 (ix2 0 k : S1x1024.Idx) = argBias m c k := by
  unfold V argBias
  after_results
  pointwise

theorem V_gain (c : Dev nD) (k : Fin 1024) : V m c main_v7 (ix2 0 k : S1x1024.Idx) = argGain m c k := by
  unfold V argGain
  after_results
  pointwise

theorem V_shift (c : Dev nD) (k : Fin 1024) : V m c main_v8 (ix2 0 k : S1x1024.Idx) = argShift m c k := by
  unfold V argShift
  after_results
  pointwise

theorem V_w (c : Dev nD) (k : Fin 1024) (d : Fin 2048) : V m c main_v1 (ix2 k d : S1024x2048.Idx) = argW m c k d := by
  unfold V argW
  after_results
  pointwise

theorem block0 (c : Dev nD) (t : Fin cfg0.N) (r : Fin 256) (d : Fin 2048) (r' : Fin 2048) (hr : r'.val = (grid0.coords t 1).val * 256 + r.val) :
    iblk m c 0 t (ix3 0 r d : S1x256x2048.Idx) = argX m c (grid0.coords t 0) r' d := by
  unfold argX
  blk_ext [iblk, V, index0 t]

theorem block1 (c : Dev nD) (t : Fin cfg0.N) (r : Fin 32) (d : Fin 2048) (r' : Fin 2048) (hr : r'.val = (8 * (grid0.coords t 1).val - 1) * 32 + r.val) :
    iblk m c 1 t (ix3 0 r d : S1x32x2048.Idx) = argX m c (grid0.coords t 0) r' d := by
  unfold argX
  blk_ext [iblk, V, index1 t]

theorem block2 (c : Dev nD) (t : Fin cfg0.N) (r : Fin 256) (d : Fin 2048) (r' : Fin 2048) (hr : r'.val = (grid0.coords t 1).val * 256 + r.val) :
    iblk m c 2 t (ix3 0 r d : S1x256x2048.Idx) = argGate m c (grid0.coords t 0) r' d := by
  unfold argGate
  blk_ext [iblk, V, index2 t]

theorem block3 (c : Dev nD) (t : Fin cfg0.N) (w : Fin 31) (k : Fin 1024) : iblk m c 3 t (ix2 w k : S31x1024.Idx) = argTaps m c w k := by
  rw [← V_taps m c]
  blk_ext [iblk, index3 t]

theorem block4 (c : Dev nD) (t : Fin cfg0.N) (k : Fin 1024) : iblk m c 4 t (ix2 0 k : S1x1024.Idx) = argBias m c k := by
  rw [← V_bias m c]
  blk_ext [iblk, index4 t]

theorem block5 (c : Dev nD) (t : Fin cfg0.N) (k : Fin 1024) : iblk m c 5 t (ix2 0 k : S1x1024.Idx) = argGain m c k := by
  rw [← V_gain m c]
  blk_ext [iblk, index5 t]

theorem block6 (c : Dev nD) (t : Fin cfg0.N) (k : Fin 1024) : iblk m c 6 t (ix2 0 k : S1x1024.Idx) = argShift m c k := by
  rw [← V_shift m c]
  blk_ext [iblk, index6 t]

theorem block7 (c : Dev nD) (t : Fin cfg0.N) (k : Fin 1024) (d : Fin 2048) : iblk m c 7 t (ix2 k d : S1024x2048.Idx) = argW m c k d := by
  rw [← V_w m c]
  blk_ext [iblk, index7 t]

/-- A block's history is a stretch of the batch element's. -/
theorem histRow_block (c : Dev nD) (t : Fin cfg0.N) (n : Fin 288) (hn : 2 ≤ n.val) (k : Fin 1024) (j : ℕ) (hj : j + 2 = (grid0.coords t 1).val * 256 + n.val) :
    histRow (grid0.coords t) (iblk m c 0 t) (iblk m c 1 t) n k = past (batchRow (argX m c) (grid0.coords t 0) k) j := by
  have hi : (grid0.coords t 1).val < 8 := (grid0.coords t 1).isLt
  unfold histRow past
  by_cases h : n.val < 32
  · rw [dif_pos h]
    by_cases h0 : (grid0.coords t 1).val = 0
    · rw [if_pos h0, if_pos (by omega)]
    · rw [if_neg h0, if_neg (by omega)]
      unfold batchRow
      rw [dif_pos (by omega), block1 m c t _ _ ⟨j - 30, by omega⟩ (by dsimp only; omega), block1 m c t _ _ ⟨j - 30, by omega⟩ (by dsimp only; omega)]
  · rw [dif_neg h, if_neg (by omega)]
    unfold batchRow
    rw [dif_pos (by omega), block0 m c t _ _ ⟨j - 30, by omega⟩ (by dsimp only; omega), block0 m c t _ _ ⟨j - 30, by omega⟩ (by dsimp only; omega)]

theorem blockRow_eq (c : Dev nD) (t : Fin cfg0.N) (r : Fin 256) (k : Fin 1024) :
    blockRow (grid0.coords t) (iblk m c 0 t) (iblk m c 1 t) (iblk m c 3 t) (iblk m c 4 t) r k
      = convAt (argX m c) (argTaps m c) (argBias m c) (grid0.coords t 0) ((grid0.coords t 1).val * 256 + r.val) k := by
  unfold blockRow convAt
  refine congrArg₂ (· + ·) (congrArg tapSum (funext fun w => congrArg₂ (· * ·) (histRow_block m c t _ ?_ k _ ?_) (block3 m c t w k))) (block4 m c t k)
  · dsimp only; omega
  · dsimp only; omega

theorem branch_congr {y y' g g' b b' w w' : Fin 1024 → EReal} {a a' : EReal} (hy : y = y') (hg : g = g') (hb : b = b') (hw : w = w') (ha : a = a') :
    branch y g b w a = branch y' g' b' w' a' := by
  rw [hy, hg, hb, hw, ha]

/-- What every point leaves in its block of the result. -/
theorem outs8 (c : Dev nD) (t : Fin cfg0.N) (r : Fin 256) (d : Fin 2048) :
    (outsAt0 m c t.val t.isLt).1 (ix3 0 r d) = branch (fun k => blockRow (grid0.coords t) (iblk m c 0 t) (iblk m c 1 t) (iblk m c 3 t) (iblk m c 4 t) r k)
      (fun k => iblk m c 5 t (ix2 0 k : S1x1024.Idx)) (fun k => iblk m c 6 t (ix2 0 k : S1x1024.Idx)) (fun k => iblk m c 7 t (ix2 k d : S1024x2048.Idx)) (iblk m c 2 t (ix3 0 r d : S1x256x2048.Idx)) := by
  by_cases h : t.val % 8 = 7
  · rw [outsAt0_B m c t h]
    dsimp only
    rw [out_B_apply]
  · rw [outsAt0_A m c t h]
    dsimp only
    rw [out_A_apply]

theorem array8 (c : Dev nD) : (dats m 0 c).arrAt 8 cfg0.N
    = outArray (argX m c) (argGate m c) (argTaps m c) (argBias m c) (argGain m c) (argShift m c) (argW m c) := by
  refine (dats m 0 c).arrAt_eq_of_covers 8 _ (by decide +kernel) fun t hf y => ?_
  blk_simp
  rw [after0_8]
  have hi : (grid0.coords t 1).val < 8 := (grid0.coords t 1).isLt
  obtain ⟨o, r, d, rfl⟩ : ∃ (o : Fin 1) (r : Fin 256) (d : Fin 2048), y = (ix3 o r d : S1x256x2048.Idx) :=
    ⟨y 0, y 1, y 2, funext fun a => match a with
      | ⟨0, _⟩ => rfl
      | ⟨1, _⟩ => rfl
      | ⟨2, _⟩ => rfl⟩
  obtain rfl : o = 0 := Subsingleton.elim _ _
  have e : (win0_8.blk t).view.emb (ix3 0 r d : S1x256x2048.Idx)
      = (ix3 (grid0.coords t 0 : Fin 16) ⟨(grid0.coords t 1).val * 256 + r.val, by omega⟩ d : S16x2048x2048.Idx) := by
    blk_ext [index8 t]
  rw [e]
  refine (outs8 m c t r d).trans (branch_congr (funext fun k => ?_) (funext fun k => block5 m c t k) (funext fun k => block6 m c t k) (funext fun k => block7 m c t k d) (block2 m c t r d _ rfl))
  exact blockRow_eq m c t r k

theorem array9 (c : Dev nD) : (dats m 0 c).arrAt 9 cfg0.N = stateArray (argX m c) := by
  refine (dats m 0 c).arrAt_eq_of_covers 9 _ (by decide +kernel) fun t hf y => ?_
  blk_simp
  have h := flush9 t hf
  rw [after0_9, outsAt0_B m c t h]
  obtain ⟨o, n, k, rfl⟩ : ∃ (o : Fin 1) (n : Fin 30) (k : Fin 1024), y = (ix3 o n k : S1x30x1024.Idx) :=
    ⟨y 0, y 1, y 2, funext fun a => match a with
      | ⟨0, _⟩ => rfl
      | ⟨1, _⟩ => rfl
      | ⟨2, _⟩ => rfl⟩
  obtain rfl : o = 0 := Subsingleton.elim _ _
  have e : (win0_9.blk t).view.emb (ix3 0 n k : S1x30x1024.Idx) = (ix3 (grid0.coords t 0 : Fin 16) n k : S16x30x1024.Idx) := by
    blk_ext [index9 t]
  rw [e]
  dsimp only
  rw [state_B_apply]
  refine histRow_block m c t _ ?_ k _ ?_
  · dsimp only; omega
  · have := coords1 t
    dsimp only
    show 2048 + n.val + 2 = _
    omega

end Cert.Conv

end
-- ==== Proof.ConvRef.lean ====
/-
  The reference's convolution branch, read at every place.
-/
module

public import proofs.«01_k».proof.Proof.Gen.ConvReferenceIdeal.Run
public import proofs.«01_k».proof.Proof.ConvSpec
public import Idealize.ShloMosaic.Lib.Pipeline.ValueKit
public import Idealize.ShloMosaic.Lib.Pointwise

@[expose] public section

set_option maxRecDepth 8192

noncomputable section

namespace Cert.Conv.Plain

open Cert.ConvReferenceIdeal Cert.ConvReferenceIdeal.Gen Cert.ConvReferenceIdeal.Value Idealize.ShloMosaic Idealize.ShloMosaic.TcCoe

variable (L : Valuation τ sig (Elt Ideal))

/-- The arguments, by their indices. -/
def argX (b : Fin 16) (t d : Fin 2048) : EReal := L (Proc.devRef .tc main_arg0) (ix3 b t d : S16x2048x2048.Idx)
def argGate (b : Fin 16) (t d : Fin 2048) : EReal := L (Proc.devRef .tc main_arg1) (ix3 b t d : S16x2048x2048.Idx)
def argTaps (w : Fin 31) (k : Fin 1024) : EReal := L (Proc.devRef .tc main_arg2) (ix3 0 w k : S1x31x1024.Idx)
def argBias (k : Fin 1024) : EReal := L (Proc.devRef .tc main_arg3) (ix2 0 k : S1x1024.Idx)
def argGain (k : Fin 1024) : EReal := L (Proc.devRef .tc main_arg4) (ix2 0 k : S1x1024.Idx)
def argShift (k : Fin 1024) : EReal := L (Proc.devRef .tc main_arg5) (ix2 0 k : S1x1024.Idx)
def argW (k : Fin 1024) (d : Fin 2048) : EReal := L (Proc.devRef .tc main_arg6) (ix3 0 k d : S1x1024x2048.Idx)

theorem hist_apply (b : Fin 16) (n : Fin 2078) (k : Fin 1024) : res_main_v10 L (ix3 b n k : S16x2078x1024.Idx) = past (batchRow (argX L) b k) n.val := by
  unfold past batchRow argX glu logi
  by_cases h : n.val < 30
  · rw [if_pos h]
    pointwise [res_main_v10, h]
  · rw [if_neg h, dif_pos (by omega)]
    pointwise [res_main_v10, h]

/-- Tap `w` at row `t` and channel `k`. -/
def term (b : Fin 16) (t : Fin 2048) (k : Fin 1024) (w : Fin 31) : EReal := past (batchRow (argX L) b k) (t.val + w.val) * argTaps L w k

theorem term_eq (b : Fin 16) (t : Fin 2048) (k : Fin 1024) (w : Fin 31) :
    term L b t k w = @HMul.hMul EReal EReal EReal _ (res_main_v10 L (ix3 b ⟨w.val + t.val, by omega⟩ k : S16x2078x1024.Idx)) (L (Proc.devRef .tc main_arg2) (ix3 0 w k : S1x31x1024.Idx)) := by
  rw [hist_apply]
  unfold term argTaps
  rw [Nat.add_comm]

theorem v79_apply (b : Fin 16) (t : Fin 2048) (k : Fin 1024) : res_main_v79 L (ix3 b t k : S16x2048x1024.Idx)
    = term L b t k 0 + term L b t k 1 + term L b t k 2 + term L b t k 3 + term L b t k 4 + term L b t k 5 + term L b t k 6 + term L b t k 7
      + term L b t k 8 + term L b t k 9 := by
  simp only [term_eq]
  unfold res_main_v79
  generalize res_main_v10 L = H
  pointwise

theorem v149_apply (b : Fin 16) (t : Fin 2048) (k : Fin 1024) : res_main_v149 L (ix3 b t k : S16x2048x1024.Idx)
    = @HAdd.hAdd EReal EReal EReal _ (res_main_v79 L (ix3 b t k : S16x2048x1024.Idx)) (term L b t k 10) + term L b t k 11 + term L b t k 12 + term L b t k 13 + term L b t k 14
      + term L b t k 15 + term L b t k 16 + term L b t k 17 + term L b t k 18 + term L b t k 19 := by
  simp only [term_eq]
  unfold res_main_v149
  generalize res_main_v10 L = H
  generalize res_main_v79 L = A
  pointwise

theorem v219_apply (b : Fin 16) (t : Fin 2048) (k : Fin 1024) : res_main_v219 L (ix3 b t k : S16x2048x1024.Idx)
    = @HAdd.hAdd EReal EReal EReal _ (res_main_v149 L (ix3 b t k : S16x2048x1024.Idx)) (term L b t k 20) + term L b t k 21 + term L b t k 22 + term L b t k 23 + term L b t k 24
      + term L b t k 25 + term L b t k 26 + term L b t k 27 + term L b t k 28 + term L b t k 29 := by
  simp only [term_eq]
  unfold res_main_v219
  generalize res_main_v10 L = H
  generalize res_main_v149 L = A
  pointwise

theorem v230_apply (b : Fin 16) (t : Fin 2048) (k : Fin 1024) : res_main_v230 L (ix3 b t k : S16x2048x1024.Idx)
    = convAt (argX L) (argTaps L) (argBias L) b t.val k := by
  have e : res_main_v230 L (ix3 b t k : S16x2048x1024.Idx)
      = @HAdd.hAdd EReal EReal EReal _ (res_main_v219 L (ix3 b t k : S16x2048x1024.Idx)) (term L b t k 30) + argBias L k := by
    simp only [term_eq]
    unfold res_main_v230 argBias
    generalize res_main_v10 L = H
    generalize res_main_v219 L = A
    pointwise
  rw [e, v219_apply, v149_apply, v79_apply]
  rfl

theorem v236_apply (b : Fin 16) (t : Fin 2048) (k : Fin 1024) : res_main_v236 L (ix3 b t k : S16x2048x1024.Idx)
    = centred (convAt (argX L) (argTaps L) (argBias L) b t.val) k := by
  unfold centred
  simp only [← v230_apply]
  unfold res_main_v236
  generalize res_main_v230 L = A
  pointwise

theorem v254_apply (b : Fin 16) (t : Fin 2048) (k : Fin 1024) : res_main_v254 L (ix3 b t k : S16x2048x1024.Idx)
    = layerNorm (convAt (argX L) (argTaps L) (argBias L) b t.val) (argGain L) (argShift L) k := by
  unfold layerNorm argGain argShift
  simp only [← v236_apply]
  unfold res_main_v254
  generalize res_main_v236 L = A
  pointwise

/-- The branch's result. -/
def result : FVec Ideal S16x2048x2048 .bf16 :=
  truncf .bf16 (mulf (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (L (Proc.devRef .tc main_arg1)))))) (Host.dotGeneral (φ₂ := .f32) dot_S16x2048x1024_S1024x2048_S16x2048x2048_2_0_01_1_n_n none (mulf (res_main_v254 L) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (res_main_v254 L)))))) (shapeCast _ (L (Proc.devRef .tc main_arg6)) shapeCasts_S1x1024x2048_S1024x2048))) bitsLt_bf16_f32

theorem result_apply (b : Fin 16) (t d : Fin 2048) : result L (ix3 b t d)
    = branch (convAt (argX L) (argTaps L) (argBias L) b t.val) (argGain L) (argShift L) (fun k => argW L k d) (argGate L b t d) := by
  unfold branch logi argW argGate
  simp only [← v254_apply]
  unfold result
  generalize res_main_v254 L = A
  pointwise

theorem result_eq : result L = outArray (argX L) (argGate L) (argTaps L) (argBias L) (argGain L) (argShift L) (argW L) := by
  funext y
  obtain ⟨b, t, d, rfl⟩ : ∃ (b : Fin 16) (t d : Fin 2048), y = (ix3 b t d : S16x2048x2048.Idx) :=
    ⟨y 0, y 1, y 2, funext fun a => match a with
      | ⟨0, _⟩ => rfl
      | ⟨1, _⟩ => rfl
      | ⟨2, _⟩ => rfl⟩
  exact result_apply L b t d

theorem state_eq : extractStridedSlice S16x30x1024 ![0, 2048, 0] (res_main_v10 L) slices_S16x2078x1024_S16x30x1024_0_2048_0 = stateArray (argX L) := by
  funext y
  obtain ⟨b, n, k, rfl⟩ : ∃ (b : Fin 16) (n : Fin 30) (k : Fin 1024), y = (ix3 b n k : S16x30x1024.Idx) :=
    ⟨y 0, y 1, y 2, funext fun a => match a with
      | ⟨0, _⟩ => rfl
      | ⟨1, _⟩ => rfl
      | ⟨2, _⟩ => rfl⟩
  refine Eq.trans ?_ (hist_apply L b ⟨2048 + n.val, by omega⟩ k)
  generalize res_main_v10 L = H
  pointwise

end Cert.Conv.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleReferenceIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal.Run
public import proofs.«01_k».proof.Proof.KValue
public import proofs.«01_k».proof.Proof.RefPoint
public import proofs.«01_k».proof.Proof.NormKernel
public import proofs.«01_k».proof.Proof.NormRef
public import proofs.«01_k».proof.Proof.MemoryKernel
public import proofs.«01_k».proof.Proof.MemoryRef
public import proofs.«01_k».proof.Proof.SampleKernel
public import proofs.«01_k».proof.Proof.SampleRef
public import proofs.«01_k».proof.Proof.ConvKernel
public import proofs.«01_k».proof.Proof.ConvRef
public import Idealize.ShloMosaic.Adequacy
public import Idealize.ShloMosaic.Init

@[expose] public section

noncomputable section

namespace Cert.Proof

open Idealize.ShloMosaic Idealize.SL.Sem Cert.Kernel

theorem frame_k : Cert.quiescent_Kernel := fun m ρ _ => Cert.Kernel.Gen.frame m ρ

theorem frame_ki : Cert.quiescent_KernelIdeal := fun m ρ _ => Cert.KernelIdeal.Gen.frame m ρ

/-- The reference's run read at its arguments. It has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants are the words that the kernel prints. -/
theorem preserves : Cert.preserves_Kernel_KernelIdeal :=
  ⟨IdealRules.named_const.statement Cert.KernelIdeal.κ _ _ _ _ rfl, IdealRules.named_const.statement Cert.KernelIdeal.κ _ _ _ _ rfl,
    IdealRules.named_const.statement Cert.KernelIdeal.κ _ _ _ _ rfl⟩

/-- Kernel and reference both compute the gated attention. -/
theorem algebraic : Cert.algebraic_KernelIdeal_ReferenceIdeal := by
  intro m ρ m' ρ' _ hag
  refine ⟨fun c => Cert.Moba.gatedAttention (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Moba.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.Moba.Plain.result_eq, (hag c).1, (hag c).2.1, (hag c).2.2.1, (hag c).2.2.2.1, (hag c).2.2.2.2.1, (hag c).2.2.2.2.2]
    exact Cert.Moba.Plain.result_eq_gatedAttention _ _ _ _ _ _

theorem frame_p2 : Cert.quiescent_Projection := fun m ρ _ => Cert.Projection.Gen.frame m ρ

theorem frame_pi2 : Cert.quiescent_ProjectionIdeal := fun m ρ _ => Cert.ProjectionIdeal.Gen.frame m ρ

theorem frame_ri2 : Cert.quiescent_ProjectionReferenceIdeal := fun m ρ _ =>
  (θ_run Cert.ProjectionReferenceIdeal.defs _ _).mono (fun r h => ⟨fun c => (h c).2.2.2.2.2.2, sem_eq_zero_of_no_sems (by decide) r.2⟩)
    (Cert.ProjectionReferenceIdeal.Value.run (F := Ideal) m ρ)

/-- The projection names no constant. -/
theorem preserves_projection : Cert.preserves_Projection_ProjectionIdeal := trivial

/-- A sixth of the reference's columns, at the kernel's arguments, is the kernel's output. -/
theorem reference_output (m : (ℓ : Loc Cert.ProjectionIdeal.nD Cert.ProjectionIdeal.τ Cert.ProjectionIdeal.sig) → Buf (Elt Ideal) ℓ) (c : Dev Cert.ProjectionIdeal.nD)
    (x : FVec Ideal Cert.ProjectionReferenceIdeal.S16x2048x2048 .f32) (g : FVec Ideal Cert.ProjectionReferenceIdeal.S1x2048 .f32) (w : FVec Ideal Cert.ProjectionReferenceIdeal.S1x2048x12288 .f32)
    (hx : x = m ((c.tc : Thread Cert.ProjectionIdeal.nD Cert.ProjectionIdeal.τ).loc Cert.ProjectionIdeal.main_arg0)) (hg : g = m ((c.tc : Thread Cert.ProjectionIdeal.nD Cert.ProjectionIdeal.τ).loc Cert.ProjectionIdeal.main_arg1))
    (hw : w = m ((c.tc : Thread Cert.ProjectionIdeal.nD Cert.ProjectionIdeal.τ).loc Cert.ProjectionIdeal.main_arg2)) (q : ℕ) (hq : q * 2048 + 2048 ≤ 12288)
    (h : Cert.ProjectionReferenceIdeal.S32768x12288.Slices ![0, q * 2048] Cert.ProjectionReferenceIdeal.S32768x2048) :
    extractStridedSlice Cert.ProjectionReferenceIdeal.S32768x2048 ![0, q * 2048] (Cert.NormProj.refAll x g w) h = Cert.NormProj.output m c q hq := by
  subst hx hg hw
  exact Cert.NormProj.ref_piece _ _ _ q hq h

/-- Kernel and reference both compute the six parts of the projection. -/
theorem algebraic_projection : Cert.algebraic_ProjectionIdeal_ProjectionReferenceIdeal := by
  intro m ρ m' ρ' _ hag
  refine ⟨fun c => Cert.NormProj.output m c 0 (by decide), fun c => Cert.NormProj.output m c 1 (by decide), fun c => Cert.NormProj.output m c 2 (by decide), fun c => Cert.NormProj.output m c 3 (by decide), fun c => Cert.NormProj.output m c 4 (by decide), fun c => Cert.NormProj.output m c 5 (by decide), ?_, ?_⟩
  · exact (θ_run Cert.ProjectionIdeal.defs _ _).mono (fun _ h c => ⟨(h c).1.trans (Cert.NormProj.array8 m c), (h c).2.1.trans (Cert.NormProj.array9 m c), (h c).2.2.1.trans (Cert.NormProj.array10 m c), (h c).2.2.2.1.trans (Cert.NormProj.array11 m c), (h c).2.2.2.2.1.trans (Cert.NormProj.array12 m c), (h c).2.2.2.2.2.1.trans (Cert.NormProj.array13 m c), (h c).2.2.2.2.2.2⟩)
      (Cert.ProjectionIdeal.Value.run_blocks (F := Ideal) m ρ)
  · have tie := fun c => reference_output m c _ _ _ (hag c).1 (hag c).2.1 (hag c).2.2
    exact (θ_run Cert.ProjectionReferenceIdeal.defs _ _).mono (fun _ h c => ⟨(h c).1.trans (tie c 0 (by decide) _), (h c).2.1.trans (tie c 1 (by decide) _), (h c).2.2.1.trans (tie c 2 (by decide) _), (h c).2.2.2.1.trans (tie c 3 (by decide) _), (h c).2.2.2.2.1.trans (tie c 4 (by decide) _), (h c).2.2.2.2.2.1.trans (tie c 5 (by decide) _), (h c).2.2.2.2.2.2⟩)
      (Cert.ProjectionReferenceIdeal.Value.run (F := Ideal) m' ρ')

theorem frame_p3 : Cert.quiescent_Memory := fun m ρ _ => Cert.Memory.Gen.frame m ρ

theorem frame_pi3 : Cert.quiescent_MemoryIdeal := fun m ρ _ => Cert.MemoryIdeal.Gen.frame m ρ

theorem frame_ri3 : Cert.quiescent_MemoryReferenceIdeal := fun m ρ _ =>
  (θ_run Cert.MemoryReferenceIdeal.defs _ _).mono (fun r h => ⟨fun c => (h c).2.2, sem_eq_zero_of_no_sems (by decide) r.2⟩)
    (Cert.MemoryReferenceIdeal.Value.run (F := Ideal) m ρ)

/-- The memory prompt's projection names no constant. -/
theorem preserves_memory : Cert.preserves_Memory_MemoryIdeal := trivial

/-- The reference's projection by one of the two weights, at the kernel's arguments, is the kernel's output. -/
theorem reference_memory (m : (ℓ : Loc Cert.MemoryIdeal.nD Cert.MemoryIdeal.τ Cert.MemoryIdeal.sig) → Buf (Elt Ideal) ℓ) (c : Dev Cert.MemoryIdeal.nD)
    (x : FVec Ideal Cert.MemoryReferenceIdeal.S16x256x2048 .f32) (g : FVec Ideal Cert.MemoryReferenceIdeal.S1x2048 .f32) (w w' : FVec Ideal Cert.MemoryReferenceIdeal.S1x2048x512 .f32)
    (hx : x = m ((c.tc : Thread Cert.MemoryIdeal.nD Cert.MemoryIdeal.τ).loc Cert.MemoryIdeal.main_arg0)) (hg : g = m ((c.tc : Thread Cert.MemoryIdeal.nD Cert.MemoryIdeal.τ).loc Cert.MemoryIdeal.main_arg1))
    (hw : w = w') : Cert.MemoryProj.refOut x g w = Cert.MemoryProj.output m c w' := by
  subst hx hg hw
  exact Cert.MemoryProj.refOut_eq _ _ _

/-- Kernel and reference both compute the memory prompt's keys and values. -/
theorem algebraic_memory : Cert.algebraic_MemoryIdeal_MemoryReferenceIdeal := by
  intro m ρ m' ρ' _ hag
  refine ⟨fun c => Cert.MemoryProj.output m c (m ((c.tc : Thread Cert.MemoryIdeal.nD Cert.MemoryIdeal.τ).loc Cert.MemoryIdeal.main_arg2)),
    fun c => Cert.MemoryProj.output m c (m ((c.tc : Thread Cert.MemoryIdeal.nD Cert.MemoryIdeal.τ).loc Cert.MemoryIdeal.main_arg3)), ?_, ?_⟩
  · exact (θ_run Cert.MemoryIdeal.defs _ _).mono (fun _ h c => ⟨(h c).1.trans (Cert.MemoryProj.array4 m c), (h c).2.1.trans (Cert.MemoryProj.array5 m c), (h c).2.2⟩)
      (Cert.MemoryIdeal.Value.run_blocks (F := Ideal) m ρ)
  · exact (θ_run Cert.MemoryReferenceIdeal.defs _ _).mono (fun _ h c => ⟨(h c).1.trans (reference_memory m c _ _ _ _ (hag c).1 (hag c).2.1 (hag c).2.2.1),
        (h c).2.1.trans (reference_memory m c _ _ _ _ (hag c).1 (hag c).2.1 (hag c).2.2.2), (h c).2.2⟩)
      (Cert.MemoryReferenceIdeal.Value.run (F := Ideal) m' ρ')

theorem frame_p4 : Cert.quiescent_Sample := fun m ρ _ => Cert.Sample.Gen.frame m ρ

theorem frame_pi4 : Cert.quiescent_SampleIdeal := fun m ρ _ => Cert.SampleIdeal.Gen.frame m ρ

theorem frame_ri4 : Cert.quiescent_SampleReferenceIdeal := fun m ρ _ =>
  (θ_run Cert.SampleReferenceIdeal.defs _ _).mono (fun r h => ⟨fun c => (h c).2.2.2.2.2.2, sem_eq_zero_of_no_sems (by decide) r.2⟩)
    (Cert.SampleReferenceIdeal.Value.run (F := Ideal) m ρ)

/-- The samples' projection names no constant. -/
theorem preserves_sample : Cert.preserves_Sample_SampleIdeal := trivial

/-- A sixth of the reference's columns in blocks of sixteen rows, at the kernel's arguments, is the kernel's output. -/
theorem reference_sample (m : (ℓ : Loc Cert.SampleIdeal.nD Cert.SampleIdeal.τ Cert.SampleIdeal.sig) → Buf (Elt Ideal) ℓ) (c : Dev Cert.SampleIdeal.nD)
    (x : FVec Ideal Cert.SampleReferenceIdeal.S32x4x2048 .f32) (g : FVec Ideal Cert.SampleReferenceIdeal.S1x2048 .f32) (w : FVec Ideal Cert.SampleReferenceIdeal.S1x2048x12288 .f32)
    (hx : x = m ((c.tc : Thread Cert.SampleIdeal.nD Cert.SampleIdeal.τ).loc Cert.SampleIdeal.main_arg0)) (hg : g = m ((c.tc : Thread Cert.SampleIdeal.nD Cert.SampleIdeal.τ).loc Cert.SampleIdeal.main_arg1))
    (hw : w = m ((c.tc : Thread Cert.SampleIdeal.nD Cert.SampleIdeal.τ).loc Cert.SampleIdeal.main_arg2)) (q : ℕ) (hq : q * 2048 + 2048 ≤ 12288)
    (h : Cert.SampleReferenceIdeal.S32x4x12288.Slices ![0, 0, q * 2048] Cert.SampleReferenceIdeal.S32x4x2048) :
    shapeCast Cert.SampleReferenceIdeal.S512x2048 (pad Cert.SampleReferenceIdeal.S32x16x2048 ![0, 0, 0] ![0, 12, 0] ![0, 0, 0]
        (extractStridedSlice Cert.SampleReferenceIdeal.S32x4x2048 ![0, 0, q * 2048] (Cert.SampleProj.refAll x g w) h)
        (sitofp .f32 (constantI Cert.SampleReferenceIdeal.S_ 32 0#32)) Cert.SampleReferenceIdeal.Gen.facts.pads_S32x4x2048_S32x16x2048_000_0120_000 Cert.SampleReferenceIdeal.Gen.facts.h_S_)
        Cert.SampleReferenceIdeal.Gen.facts.shapeCasts_S32x16x2048_S512x2048
      = Cert.SampleProj.output m c q hq := by
  subst hx hg hw
  exact Cert.SampleProj.ref_piece _ _ _ q hq h

/-- Kernel and reference both compute the six parts of the samples' projection. -/
theorem algebraic_sample : Cert.algebraic_SampleIdeal_SampleReferenceIdeal := by
  intro m ρ m' ρ' _ hag
  refine ⟨fun c => Cert.SampleProj.output m c 0 (by decide), fun c => Cert.SampleProj.output m c 1 (by decide), fun c => Cert.SampleProj.output m c 2 (by decide), fun c => Cert.SampleProj.output m c 3 (by decide), fun c => Cert.SampleProj.output m c 4 (by decide), fun c => Cert.SampleProj.output m c 5 (by decide), ?_, ?_⟩
  · exact (θ_run Cert.SampleIdeal.defs _ _).mono (fun _ h c => ⟨(h c).1.trans (Cert.SampleProj.array8 m c), (h c).2.1.trans (Cert.SampleProj.array9 m c), (h c).2.2.1.trans (Cert.SampleProj.array10 m c), (h c).2.2.2.1.trans (Cert.SampleProj.array11 m c), (h c).2.2.2.2.1.trans (Cert.SampleProj.array12 m c), (h c).2.2.2.2.2.1.trans (Cert.SampleProj.array13 m c), (h c).2.2.2.2.2.2⟩)
      (Cert.SampleIdeal.Value.run_blocks (F := Ideal) m ρ)
  · have tie := fun c => reference_sample m c _ _ _ (hag c).1 (hag c).2.1 (hag c).2.2
    exact (θ_run Cert.SampleReferenceIdeal.defs _ _).mono (fun _ h c => ⟨(h c).1.trans (tie c 0 (by decide) _), (h c).2.1.trans (tie c 1 (by decide) _), (h c).2.2.1.trans (tie c 2 (by decide) _), (h c).2.2.2.1.trans (tie c 3 (by decide) _), (h c).2.2.2.2.1.trans (tie c 4 (by decide) _), (h c).2.2.2.2.2.1.trans (tie c 5 (by decide) _), (h c).2.2.2.2.2.2⟩)
      (Cert.SampleReferenceIdeal.Value.run (F := Ideal) m' ρ')

theorem frame_p5 : Cert.quiescent_Conv := fun m ρ _ => Cert.Conv.Gen.frame m ρ

theorem frame_pi5 : Cert.quiescent_ConvIdeal := fun m ρ _ => Cert.ConvIdeal.Gen.frame m ρ

theorem frame_ri5 : Cert.quiescent_ConvReferenceIdeal := fun m ρ _ =>
  (θ_run Cert.ConvReferenceIdeal.defs _ _).mono (fun r h => ⟨fun c => (h c).2.2, sem_eq_zero_of_no_sems (by decide) r.2⟩)
    (Cert.ConvReferenceIdeal.Value.run (F := Ideal) m ρ)

/-- The convolution branch names no constant. -/
theorem preserves_conv : Cert.preserves_Conv_ConvIdeal := trivial

/-- Kernel and reference both compute the convolution branch and its state. -/
theorem algebraic_conv : Cert.algebraic_ConvIdeal_ConvReferenceIdeal := by
  intro m ρ m' ρ' _ hag
  refine ⟨fun c => Cert.Conv.outArray (Cert.Conv.argX m c) (Cert.Conv.argGate m c) (Cert.Conv.argTaps m c) (Cert.Conv.argBias m c) (Cert.Conv.argGain m c) (Cert.Conv.argShift m c) (Cert.Conv.argW m c),
    fun c => Cert.Conv.stateArray (Cert.Conv.argX m c), ?_, ?_⟩
  · exact (θ_run Cert.ConvIdeal.defs _ _).mono (fun _ h c => ⟨(h c).1.trans (Cert.Conv.array8 m c), (h c).2.1.trans (Cert.Conv.array9 m c), (h c).2.2⟩)
      (Cert.ConvIdeal.Value.run_blocks (F := Ideal) m ρ)
  · have h0 : ∀ c, Cert.Conv.Plain.argX (StableHlo.launchContents m' c) = Cert.Conv.argX m c := fun c => by
      funext b t d
      exact congrFun (hag c).1 _
    have h1 : ∀ c, Cert.Conv.Plain.argGate (StableHlo.launchContents m' c) = Cert.Conv.argGate m c := fun c => by
      funext b t d
      exact congrFun (hag c).2.1 _
    have h2 : ∀ c, Cert.Conv.Plain.argTaps (StableHlo.launchContents m' c) = Cert.Conv.argTaps m c := fun c => by
      funext w k
      exact congrFun (hag c).2.2.1 _
    have h3 : ∀ c, Cert.Conv.Plain.argBias (StableHlo.launchContents m' c) = Cert.Conv.argBias m c := fun c => by
      funext k
      exact congrFun (hag c).2.2.2.1 _
    have h4 : ∀ c, Cert.Conv.Plain.argGain (StableHlo.launchContents m' c) = Cert.Conv.argGain m c := fun c => by
      funext k
      exact congrFun (hag c).2.2.2.2.1 _
    have h5 : ∀ c, Cert.Conv.Plain.argShift (StableHlo.launchContents m' c) = Cert.Conv.argShift m c := fun c => by
      funext k
      exact congrFun (hag c).2.2.2.2.2.1 _
    have h6 : ∀ c, Cert.Conv.Plain.argW (StableHlo.launchContents m' c) = Cert.Conv.argW m c := fun c => by
      funext k d
      exact congrFun (hag c).2.2.2.2.2.2 _
    refine (θ_run Cert.ConvReferenceIdeal.defs _ _).mono (fun _ h c => ⟨(h c).1.trans ?_, (h c).2.1.trans ?_, (h c).2.2⟩)
      (Cert.ConvReferenceIdeal.Value.run (F := Ideal) m' ρ')
    · refine (Cert.Conv.Plain.result_eq (StableHlo.launchContents m' c)).trans ?_
      rw [h0 c, h1 c, h2 c, h3 c, h4 c, h5 c, h6 c]
    · refine (Cert.Conv.Plain.state_eq (StableHlo.launchContents m' c)).trans ?_
      rw [h0 c]

theorem claim : Cert.Claim :=
  ⟨Cert.Kernel.Gen.facts, Cert.KernelIdeal.Gen.facts, Cert.ReferenceIdeal.Gen.facts, Cert.Projection.Gen.facts, Cert.ProjectionIdeal.Gen.facts,
    Cert.ProjectionReferenceIdeal.Gen.facts, Cert.Memory.Gen.facts, Cert.MemoryIdeal.Gen.facts, Cert.MemoryReferenceIdeal.Gen.facts,
    Cert.Sample.Gen.facts, Cert.SampleIdeal.Gen.facts, Cert.SampleReferenceIdeal.Gen.facts, Cert.Conv.Gen.facts, Cert.ConvIdeal.Gen.facts,
    Cert.ConvReferenceIdeal.Gen.facts, frame_k, frame_ki, frame_ri, frame_p2, frame_pi2,
    frame_ri2, frame_p3, frame_pi3, frame_ri3, frame_p4, frame_pi4, frame_ri4, frame_p5, frame_pi5, frame_ri5, preserves, algebraic, preserves_projection,
    algebraic_projection, preserves_memory, algebraic_memory, preserves_sample, algebraic_sample, preserves_conv, algebraic_conv⟩

end Cert.Proof

end
